-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_are_finite_KernelIdeal [hPre_scores_are_finite_KernelIdeal : Cert.Pre_scores_are_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_are_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_are_finite_ReferenceIdeal [hPre_scores_are_finite_ReferenceIdeal : Cert.Pre_scores_are_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_are_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_are_finite_KernelIdeal [hKernelIdeal : Cert.KernelIdeal.Facts] [hPre_scores_are_finite_KernelIdeal : Cert.Pre_scores_are_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_are_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_are_finite_ReferenceIdeal [hReferenceIdeal : Cert.ReferenceIdeal.Facts] [hPre_scores_are_finite_ReferenceIdeal : Cert.Pre_scores_are_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_are_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_are_finite_KernelIdeal [hKernelIdeal : Cert.KernelIdeal.Facts] [hReferenceIdeal : Cert.ReferenceIdeal.Facts] [hPre_scores_are_finite_KernelIdeal : Cert.Pre_scores_are_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_are_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_are_finite_KernelIdeal : Cert.Pre_scores_are_finite_KernelIdeal.Facts) (hPre_scores_are_finite_ReferenceIdeal : Cert.Pre_scores_are_finite_ReferenceIdeal.Facts),
    quiescent_Kernel (hKernel := hKernel)
    ∧ quiescent_KernelIdeal (hKernelIdeal := hKernelIdeal)
    ∧ quiescent_KernelIdeal_pre_scores_are_finite_KernelIdeal (hKernelIdeal := hKernelIdeal) (hPre_scores_are_finite_KernelIdeal := hPre_scores_are_finite_KernelIdeal)
    ∧ quiescent_ReferenceIdeal (hReferenceIdeal := hReferenceIdeal)
    ∧ quiescent_ReferenceIdeal_pre_scores_are_finite_ReferenceIdeal (hReferenceIdeal := hReferenceIdeal) (hPre_scores_are_finite_ReferenceIdeal := hPre_scores_are_finite_ReferenceIdeal)
    ∧ preserves_Kernel_KernelIdeal
    ∧ algebraic_KernelIdeal_ReferenceIdeal_pre_scores_are_finite_KernelIdeal (hKernelIdeal := hKernelIdeal) (hReferenceIdeal := hReferenceIdeal) (hPre_scores_are_finite_KernelIdeal := hPre_scores_are_finite_KernelIdeal)
-- ==== Pre_scores_are_finite_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .bf16) (main_arg1 : FVec F S512x512 .bf16) (main_arg2 : FVec F S512x512 .bf16) (main_arg3 : FVec F S512x512 .bf16) (main_arg4 : FVec F S512x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .bf16 := Host.absf main_arg1
  let main_cst_0 : FVec F S_ .bf16 := constant S_ .bf16 0x7F80#16
  let main_v5 : FVec F S512x512 .bf16 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .bf16 := Host.absf main_arg2
  let main_cst_2 : FVec F S_ .bf16 := constant S_ .bf16 0x7F80#16
  let main_v10 : FVec F S512x512 .bf16 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Pre_scores_are_finite_ReferenceIdeal.lean ====
abbrev S2x512x512 : Shape := ⟨3, ![2, 512, 512]⟩
abbrev S512x2048 : Shape := ⟨2, ![512, 2048]⟩
abbrev S2048x512 : Shape := ⟨2, ![2048, 512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S2x512x512 .bf16) (main_arg1 : FVec F S512x2048 .bf16) (main_arg2 : FVec F S512x2048 .bf16) (main_arg3 : FVec F S512x2048 .bf16) (main_arg4 : FVec F S2048x512 .bf16) : IVec S_ 1 :=
  let main_v0 : FVec F S2x512x512 .bf16 := Host.absf main_arg0
  let main_cst : FVec F S_ .bf16 := constant S_ .bf16 0x7F80#16
  let main_v1 : FVec F S2x512x512 .bf16 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S512x2048 .bf16 := Host.absf main_arg1
  let main_cst_0 : FVec F S_ .bf16 := constant S_ .bf16 0x7F80#16
  let main_v5 : FVec F S512x2048 .bf16 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512x2048 .bf16 := Host.absf main_arg2
  let main_cst_2 : FVec F S_ .bf16 := constant S_ .bf16 0x7F80#16
  let main_v10 : FVec F S512x2048 .bf16 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S3x2x128x512 : Shape := ⟨4, ![3, 2, 128, 512]⟩
abbrev S2x512x512 : Shape := ⟨3, ![2, 512, 512]⟩
abbrev S3 : Shape := ⟨1, ![3]⟩
abbrev S_ : Shape := ⟨0, ![]⟩
abbrev S1 : Shape := ⟨1, ![1]⟩
abbrev S1x2x128x512 : Shape := ⟨4, ![1, 2, 128, 512]⟩
abbrev S1x128x512 : Shape := ⟨3, ![1, 128, 512]⟩
abbrev S128x512 : Shape := ⟨2, ![128, 512]⟩
abbrev S1x512x512 : Shape := ⟨3, ![1, 512, 512]⟩
abbrev S512x64 : Shape := ⟨2, ![512, 64]⟩
abbrev S512 : Shape := ⟨1, ![512]⟩
abbrev S512x1 : Shape := ⟨2, ![512, 1]⟩
abbrev S1x512x64 : Shape := ⟨3, ![1, 512, 64]⟩

abbrev nBuf : Space → Nat
  | .hbm => 6
  | .vmem => 15
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S512x512, .bf16⟩
  | .hbm, ⟨4, _⟩ => ⟨S512x512, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S2x128x512, .f32⟩
  | .local _ .vmem, ⟨6, _⟩ => ⟨S2x128x512, .bf16⟩
  | .local _ .vmem, ⟨7, _⟩ => ⟨S3x2x128x512, .bf16⟩
  | .local _ .vmem, ⟨8, _⟩ => ⟨S2x512x512, .bf16⟩
  | .local _ .vmem, ⟨9, _⟩ => ⟨S2x512x512, .bf16⟩
  | .local _ .vmem, ⟨10, _⟩ => ⟨S2x512x512, .bf16⟩
  | .local _ .vmem, ⟨11, _⟩ => ⟨S2x512x512, .bf16⟩
  | .local _ .vmem, ⟨12, _⟩ => ⟨S2x512x512, .f32⟩
  | .local _ .vmem, ⟨13, _⟩ => ⟨S3x2x128x512, .bf16⟩
  | .local _ .vmem, ⟨14, _⟩ => ⟨S3x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v21 : BitVec 32 := Scalar.addi v2 c1_i32_18
  let c4_i32_19 : BitVec 32 := 4#32
  let v22 : BitVec 32 := Scalar.remsi v21 c4_i32_19
  let c1_i32_23 : BitVec 32 := 1#32
  let v23 : BitVec 32 := Scalar.muli v22 c1_i32_23
  let v24 : BitVec 32 := Scalar.addi c0_i32_24 v23
  v24.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_28 : BitVec 32 := 2#32
  let v31 : BitVec 32 := Scalar.addi v2 c2_i32_28
  let c4_i32_29 : BitVec 32 := 4#32
  let v32 : BitVec 32 := Scalar.remsi v31 c4_i32_29
  let c1_i32_33 : BitVec 32 := 1#32
  let v33 : BitVec 32 := Scalar.muli v32 c1_i32_33
  let v34 : BitVec 32 := Scalar.addi c0_i32_34 v33
  v34.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_38 : BitVec 32 := 3#32
  let v41 : BitVec 32 := Scalar.addi v2 c3_i32_38
  let c4_i32_39 : BitVec 32 := 4#32
  let v42 : BitVec 32 := Scalar.remsi v41 c4_i32_39
  let c1_i32_43 : BitVec 32 := 1#32
  let v43 : BitVec 32 := Scalar.muli v42 c1_i32_43
  let v44 : BitVec 32 := Scalar.addi c0_i32_44 v43
  v44.toNat
def k0_off1 (d0 : Dev nD) : Fin 3 → Nat :=
  let c0_59 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v60 : BitVec 32 := Scalar.muli v2 c128_i32
  let v65 : Index := Scalar.indexCast v60
  let c0_60 : Index := 0#32
  ![0, v65.toNat, 0]
def k0_off2 (d0 : Dev nD) : Fin 3 → Nat :=
  let c1 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v60 : BitVec 32 := Scalar.muli v2 c128_i32
  let v85 : Index := Scalar.indexCast v60
  let c0_68 : Index := 0#32
  ![1, v85.toNat, 0]
def k0_off3 (d0 : Dev nD) (c2_i32_83 : BitVec 32) : Fin 3 → Nat :=
  let c0_91 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v107 : BitVec 32 := Scalar.addi v2 c2_i32_83
  let c1_i32_84 : BitVec 32 := 1#32
  let v108 : BitVec 32 := Scalar.addi v107 c1_i32_84
  let c4_i32_85 : BitVec 32 := 4#32
  let v109 : BitVec 32 := Scalar.remsi v108 c4_i32_85
  let c128_i32_89 : BitVec 32 := 128#32
  let v112 : BitVec 32 := Scalar.muli v109 c128_i32_89
  let v117 : Index := Scalar.indexCast v112
  let c0_92 : Index := 0#32
  ![0, v117.toNat, 0]
def k0_off4 (d0 : Dev nD) (c2_i32_83 : BitVec 32) : Fin 3 → Nat :=
  let c1_100 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v107 : BitVec 32 := Scalar.addi v2 c2_i32_83
  let c1_i32_84 : BitVec 32 := 1#32
  let v108 : BitVec 32 := Scalar.addi v107 c1_i32_84
  let c4_i32_85 : BitVec 32 := 4#32
  let v109 : BitVec 32 := Scalar.remsi v108 c4_i32_85
  let c128_i32_89 : BitVec 32 := 128#32
  let v112 : BitVec 32 := Scalar.muli v109 c128_i32_89
  let v137 : Index := Scalar.indexCast v112
  let c0_101 : Index := 0#32
  ![1, v137.toNat, 0]
def k0_off5 (d0 : Dev nD) (c1_i32_313 : BitVec 32) : Fin 3 → Nat :=
  let c0_316 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v553 : BitVec 32 := Scalar.addi v2 c1_i32_313
  let c4_i32_314 : BitVec 32 := 4#32
  let v554 : BitVec 32 := Scalar.remsi v553 c4_i32_314
  let c128_i32_315 : BitVec 32 := 128#32
  let v555 : BitVec 32 := Scalar.muli v554 c128_i32_315
  let v556 : Index := Scalar.indexCast v555
  let c0_317 : Index := 0#32
  ![0, v556.toNat, 0]
def k0_dev7 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_313 : BitVec 32 := 1#32
  let v553 : BitVec 32 := Scalar.addi v2 c1_i32_313
  let c4_i32_314 : BitVec 32 := 4#32
  let v554 : BitVec 32 := Scalar.remsi v553 c4_i32_314
  let c1_i32_326 : BitVec 32 := 1#32
  let v562 : BitVec 32 := Scalar.muli v554 c1_i32_326
  let v563 : BitVec 32 := Scalar.addi c0_i32_327 v562
  v563.toNat
def k0_dev8 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_334 : BitVec 32 := 2#32
  let v572 : BitVec 32 := Scalar.addi v2 c2_i32_334
  let c4_i32_335 : BitVec 32 := 4#32
  let v573 : BitVec 32 := Scalar.remsi v572 c4_i32_335
  let c1_i32_347 : BitVec 32 := 1#32
  let v581 : BitVec 32 := Scalar.muli v573 c1_i32_347
  let v582 : BitVec 32 := Scalar.addi c0_i32_348 v581
  v582.toNat
def k0_dev9 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_355 : BitVec 32 := 3#32
  let v591 : BitVec 32 := Scalar.addi v2 c3_i32_355
  let c4_i32_356 : BitVec 32 := 4#32
  let v592 : BitVec 32 := Scalar.remsi v591 c4_i32_356
  let c1_i32_368 : BitVec 32 := 1#32
  let v600 : BitVec 32 := Scalar.muli v592 c1_i32_368
  let v601 : BitVec 32 := Scalar.addi c0_i32_369 v600
  v601.toNat
def k0_off6 (d0 : Dev nD) : Fin 3 → Nat :=
  let c0_377 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_376 : BitVec 32 := 128#32
  let v610 : BitVec 32 := Scalar.muli v2 c128_i32_376
  let v611 : Index := Scalar.indexCast v610
  let c0_378 : Index := 0#32
  ![0, v611.toNat, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x512 : Shape := ⟨3, ![2, 512, 512]⟩
abbrev S512x2048 : Shape := ⟨2, ![512, 2048]⟩
abbrev S2048x512 : Shape := ⟨2, ![2048, 512]⟩
abbrev S2x512x2048 : Shape := ⟨3, ![2, 512, 2048]⟩
abbrev S2x512x32x64 : Shape := ⟨4, ![2, 512, 32, 64]⟩
abbrev S_ : Shape := ⟨0, ![]⟩
abbrev S2x32x512x1 : Shape := ⟨4, ![2, 32, 512, 1]⟩
abbrev S2x32x512x512 : Shape := ⟨4, ![2, 32, 512, 512]⟩
abbrev S2x32x512 : Shape := ⟨3, ![2, 32, 512]⟩
abbrev S2x512x32x1 : Shape := ⟨4, ![2, 512, 32, 1]⟩
abbrev S2x32x64x512 : Shape := ⟨4, ![2, 32, 64, 512]⟩

abbrev nBuf : Space → Nat
  | .hbm => 53
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S512x2048, .bf16⟩
  | .hbm, ⟨2, _⟩ => ⟨S512x2048, .bf16⟩
  | .hbm, ⟨3, _⟩ => ⟨S512x2048, .bf16⟩
  | .hbm, ⟨4, _⟩ => ⟨S2048x512, .bf16⟩
  | .hbm, ⟨5, _⟩ => ⟨S2x512x2048, .f32⟩
  | .hbm, ⟨6, _⟩ => ⟨S2x512x2048, .bf16⟩
  | .hbm, ⟨7, _⟩ => ⟨S2x512x32x64, .bf16⟩
  | .hbm, ⟨8, _⟩ => ⟨S2x512x2048, .f32⟩
  | .hbm, ⟨9, _⟩ => ⟨S2x512x2048, .bf16⟩
  | .hbm, ⟨10, _⟩ => ⟨S2x512x32x64, .bf16⟩
  | .hbm, ⟨11, _⟩ => ⟨S2x512x2048, .f32⟩
  | .hbm, ⟨12, _⟩ => ⟨S2x512x2048, .bf16⟩
  | .hbm, ⟨13, _⟩ => ⟨S2x512x32x64, .bf16⟩
  | .hbm, ⟨14, _⟩ => ⟨S_, .f32⟩
  | .hbm, ⟨15, _⟩ => ⟨S2x512x32x64, .f32⟩
  | .hbm, ⟨16, _⟩ => ⟨S_, .f32⟩
  | .hbm, ⟨17, _⟩ => ⟨S2x32x512x1, .f32⟩
  | .hbm, ⟨18, _⟩ => ⟨S_, .f32⟩
  | .hbm, ⟨19, _⟩ => ⟨S2x32x512x1, .f32⟩
  | .hbm, ⟨20, _⟩ => ⟨S2x32x512x512, .f32⟩
  | .hbm, ⟨21, _⟩ => ⟨S2x32x512x512, .bf16⟩
  | .hbm, ⟨22, _⟩ => ⟨S2x32x512x512, .f32⟩
  | .hbm, ⟨23, _⟩ => ⟨S_, .f32⟩
  | .hbm, ⟨24, _⟩ => ⟨S2x32x512x512, .f32⟩
  | .hbm, ⟨25, _⟩ => ⟨S2x32x512x512, .f32⟩
  | .hbm, ⟨26, _⟩ => ⟨S_, .f32⟩
  | .hbm, ⟨27, _⟩ => ⟨S2x32x512, .f32⟩
  | .hbm, ⟨28, _⟩ => ⟨S2x32x512x1, .f32⟩
  | .hbm, ⟨29, _⟩ => ⟨S2x32x512x1, .f32⟩
  | .hbm, ⟨30, _⟩ => ⟨S2x32x512x1, .f32⟩
  | .hbm, ⟨31, _⟩ => ⟨S2x32x512x1, .f32⟩
  | .hbm, ⟨32, _⟩ => ⟨S2x32x512x512, .f32⟩
  | .hbm, ⟨33, _⟩ => ⟨S2x32x512x512, .f32⟩
  | .hbm, ⟨34, _⟩ => ⟨S2x32x512x512, .f32⟩
  | .hbm, ⟨35, _⟩ => ⟨S2x32x512x1, .f32⟩
  | .hbm, ⟨36, _⟩ => ⟨S_, .f32⟩
  | .hbm, ⟨37, _⟩ => ⟨S2x32x512, .f32⟩
  | .hbm, ⟨38, _⟩ => ⟨S2x32x512x1, .f32⟩
  | .hbm, ⟨39, _⟩ => ⟨S2x32x512x1, .f32⟩
  | .hbm, ⟨40, _⟩ => ⟨S2x512x32x1, .f32⟩
  | .hbm, ⟨41, _⟩ => ⟨S2x512x32x64, .f32⟩
  | .hbm, ⟨42, _⟩ => ⟨S2x512x32x64, .f32⟩
  | .hbm, ⟨43, _⟩ => ⟨S2x512x32x64, .f32⟩
  | .hbm, ⟨44, _⟩ => ⟨S2x32x64x512, .f32⟩
  | .hbm, ⟨45, _⟩ => ⟨S2x512x32x64, .f32⟩
  | .hbm, ⟨46, _⟩ => ⟨S2x512x32x64, .f32⟩
  | .hbm, ⟨47, _⟩ => ⟨S2x512x32x1, .f32⟩
  | .hbm, ⟨48, _⟩ => ⟨S2x512x32x64, .f32⟩
  | .hbm, ⟨49, _⟩ => ⟨S2x512x32x64, .f32⟩
  | .hbm, ⟨50, _⟩ => ⟨S2x512x2048, .f32⟩
  | .hbm, ⟨51, _⟩ => ⟨S2048x512, .f32⟩
  | .hbm, ⟨52, _⟩ => ⟨S2x512x512, .f32⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Proof.KernelIdeal.Cells.lean ====
/-
  The kernel's exchange, read as a schedule: which device sends which block to which peer, the thirteen semaphores a
  device uses, and what each semaphore's one round hands to the device that waits on it. Both exchanges — the gather of
  the activations and the scatter of the partial results — have the same form, so one index `(phase, slot)` serves both.
-/
module

public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.ShareLeaves
public import Idealize.ShloMosaic.Lib.Tactic

@[expose] public section

set_option maxRecDepth 16384

noncomputable section

namespace Cert.KernelIdealAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's cells, and the exchange's (a barrier cell has three duties) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers -/

set_option backward.proofsInPublic true in
/-- The device whose block lands in `c`'s slot `r`. -/
def src (c : Dev nD) (r : Fin 3) : Dev nD := ⟨(c.val + r.val + 1) % 4, Nat.mod_lt _ (by decide)⟩
set_option backward.proofsInPublic true in
/-- The device in whose slot `r` the block of `c` lands. -/
def dst (c : Dev nD) (r : Fin 3) : Dev nD := ⟨(c.val + (3 - r.val)) % 4, Nat.mod_lt _ (by decide)⟩

theorem src_dst (c : Dev nD) (r : Fin 3) : src (dst c r) r = c := by revert c r; decide
theorem dst_src (c : Dev nD) (r : Fin 3) : dst (src c r) r = c := by revert c r; decide

/-- Slot `r`'s senders and receivers, as a permutation of the devices. -/
def turn (r : Fin 3) : Dev nD ≃ Dev nD := ⟨fun c => src c r, fun c => dst c r, fun c => dst_src c r, fun c => src_dst c r⟩

/-! ## Semaphores -/

/-- A phase of the exchange (`false` the gather, `true` the scatter) and a slot. -/
abbrev Xf : Type := Bool × Fin 3
/-- A device's cells: its barrier; of each transfer its sending end (`false`) and its landing end (`true`). -/
abbrev CI : Type := Unit ⊕ (Bool × Xf)

/-- The barrier semaphore. -/
abbrev barS : Sem sig := (SemArray.scalar (sig.barrier 0 rfl) : Sems sig S_).sem
set_option backward.proofsInPublic true in
/-- The semaphore of a transfer's sending end. -/
def sndS (b : Bool) (r : Fin 3) : DmaSem sig := ⟨6 + (bif b then 6 else 0) + (2 - r.val), by revert b r; decide⟩
set_option backward.proofsInPublic true in
/-- The semaphore of a transfer's landing end. -/
def rcvS (b : Bool) (r : Fin 3) : DmaSem sig := ⟨9 + (bif b then 6 else 0) + r.val, by revert b r; decide⟩

/-- The DMA semaphores, by transfer. -/
def osem : Bool × Xf → SemLoc sig
  | (false, b, r) => .dma (sndS b r)
  | (true, b, r) => .dma (rcvS b r)
/-- All thirteen. -/
def csem : CI → SemLoc sig
  | .inl _ => .reg barS
  | .inr k => osem k

/-- Which cell a semaphore is, if one of the thirteen. -/
def role : SemLoc sig → Option CI
  | .reg _ => some (.inl ())
  | .dma q => (![none, none, none, none, none, none,
      some (.inr (false, false, 2)), some (.inr (false, false, 1)), some (.inr (false, false, 0)),
      some (.inr (true, false, 0)), some (.inr (true, false, 1)), some (.inr (true, false, 2)),
      some (.inr (false, true, 2)), some (.inr (false, true, 1)), some (.inr (false, true, 0)),
      some (.inr (true, true, 0)), some (.inr (true, true, 1)), some (.inr (true, true, 2))] : Fin 18 → Option CI) q

theorem role_csem : ∀ k, role (csem k) = some k := by decide
theorem csem_injective : Function.Injective csem := fun a b h => Option.some.inj (by rw [← role_csem a, ← role_csem b, h])
theorem ownSemFacts : Pipeline.OwnSemFacts cfg0.spec osem := by decide

/-- Cell `k` of device `c`. -/
def cellAt (c : Dev nD) (k : CI) : GSem nD τ sig := ((c : Thread nD τ), csem k)

abbrev barCell (c : Dev nD) : GSem nD τ sig := ((c : Thread nD τ), .reg barS)
abbrev sndCell (b : Bool) (r : Fin 3) (c : Dev nD) : GSem nD τ sig := ((c : Thread nD τ), .dma (sndS b r))
abbrev rcvCell (b : Bool) (r : Fin 3) (c : Dev nD) : GSem nD τ sig := ((c : Thread nD τ), .dma (rcvS b r))

theorem role_bar : role (.reg barS) = some (.inl ()) := rfl
theorem role_snd (b : Bool) (r : Fin 3) : role (.dma (sndS b r)) = some (.inr (false, b, r)) := role_csem (.inr (false, b, r))
theorem role_rcv (b : Bool) (r : Fin 3) : role (.dma (rcvS b r)) = some (.inr (true, b, r)) := role_csem (.inr (true, b, r))

/-! ## Buffers -/

set_option backward.proofsInPublic true in
theorem slot_inb (r : Fin 3) : ∀ k, (![r.val, 0, 0, 0] : Fin 4 → Nat) k + S1x2x128x512.size k ≤ S3x2x128x512.size k := by revert r; decide

/-- Slot `r` of a three-slot buffer. -/
abbrev slotRect (r : Fin 3) : Rect S3x2x128x512 := Rect.unit (s := S3x2x128x512) ![r.val, 0, 0, 0] S1x2x128x512.size (slot_inb r)
/-- Slot `r` of such a buffer, as one block. -/
abbrev slotM (M : Memref sig .tc .vmem S3x2x128x512 .bf16) (r : Fin 3) : Memref sig .tc .vmem S2x128x512 .bf16 :=
  (M.slice (slotRect r) (fun _ => rfl)).squeeze S2x128x512 squeezes_S1x2x128x512_S2x128x512

abbrev xbM : Memref sig .tc .vmem S2x128x512 .bf16 := Memref.whole cc0_scratch0
abbrev xgM : Memref sig .tc .vmem S3x2x128x512 .bf16 := Memref.whole cc0_scratch1
abbrev ysM : Memref sig .tc .vmem S3x2x128x512 .bf16 := Memref.whole cc0_scratch7
abbrev rsM : Memref sig .tc .vmem S3x2x128x512 .bf16 := Memref.whole cc0_scratch8

/-- Where a transfer reads: the gather the device's own activations, the scatter the slot the partial result was put in. -/
def srcM : Bool → Fin 3 → Memref sig .tc .vmem S2x128x512 .bf16
  | false, _ => xbM
  | true, r => slotM ysM r.rev
/-- Where a transfer lands. -/
def dstM : Bool → Fin 3 → Memref sig .tc .vmem S2x128x512 .bf16
  | false, r => slotM xgM r
  | true, r => slotM rsM r
/-- With what share a transfer holds its source: the activations are lent three times and read meanwhile. -/
def shr : Bool → Fin 3 → PosShare TreeShare
  | false, r => ShareLeaves.leaf 2 fullShare ⟨r.val, by omega⟩
  | true, _ => fullShare

/-- The credit of one block. -/
abbrev N : ℕ := (xbM : Memref sig .tc .vmem S2x128x512 .bf16).view.dmaCredit
theorem N_pos : 0 < N := View.dmaCredit_pos _ (by decide)

omit [FloatOps F] in
theorem dstM_amount (b : Bool) (r : Fin 3) (q : DmaSem sig) : (dstM b r).view.amount (.dma q) = N := by
  cases b <;> fin_cases r <;> rfl
omit [FloatOps F] in
theorem srcM_amount (b : Bool) (r : Fin 3) (q : DmaSem sig) : (srcM b r).view.amount (.dma q) = N := by
  cases b <;> fin_cases r <;> rfl

/-! ## The schedule -/

/-- What the transfers carry: `X c` the activations of device `c`; `T c d` the block of partial results device `c` hands `d`. -/
structure Load (F : FTy → Type) where
  X : Dev nD → (S2x128x512.Idx → Elt F .bf16)
  T : Dev nD → Dev nD → (S2x128x512.Idx → Elt F .bf16)

variable (ld : Load F)

/-- The block that device `c` sends in phase `b` to slot `r`. -/
def Load.val (b : Bool) (r : Fin 3) (c : Dev nD) : S2x128x512.Idx → Elt F .bf16 :=
  match b with
  | false => ld.X c
  | true => ld.T c (dst c r)

/-- A landing slot, whatever it holds. -/
def room (b : Bool) (r : Fin 3) (c : Dev nD) : sProp 𝕄 := iprop(∃ Z, owns (c : Thread nD τ) (dstM b r) fullShare Z)
/-- What the wait on a landing end gives: the slot, holding the sender's block. -/
def landed (b : Bool) (r : Fin 3) (c : Dev nD) : sProp 𝕄 := owns (c : Thread nD τ) (dstM b r) fullShare (ld.val b r (src c r))
/-- What the wait on a sending end gives back: the source. -/
def lent (b : Bool) (r : Fin 3) (c : Dev nD) : sProp 𝕄 := owns (c : Thread nD τ) (srcM b r) (shr b r) (ld.val b r c)
/-- What the signal of slot `r`'s receiver gives at the barrier: that receiver's two landing slots. -/
def rooms (r : Fin 3) (c : Dev nD) : sProp 𝕄 := iprop(room false r (dst c r) ∗ room true r (dst c r))

omit [FloatOps F] in
instance room_storable (b : Bool) (r : Fin 3) (c : Dev nD) : BI.Storable (upEmb : UEmb _ 𝕄) (room (F := F) b r c) := by unfold room; infer_instance
omit [FloatOps F] in
instance rooms_storable (r : Fin 3) (c : Dev nD) : BI.Storable (upEmb : UEmb _ 𝕄) (rooms (F := F) r c) := by unfold rooms; infer_instance
omit [FloatOps F] in
instance landed_storable (b : Bool) (r : Fin 3) (c : Dev nD) : BI.Storable (upEmb : UEmb _ 𝕄) (landed ld b r c) := by unfold landed; infer_instance
omit [FloatOps F] in
instance lent_storable (b : Bool) (r : Fin 3) (c : Dev nD) : BI.Storable (upEmb : UEmb _ 𝕄) (lent ld b r c) := by unfold lent; infer_instance

/-- The duties of a cell's one round. -/
def dutiesOf : Option CI → Finset (Fin 3)
  | some (.inl _) => Finset.univ
  | some (.inr _) => {0}
  | none => ∅
/-- The units a duty pays. -/
def amountOf : Option CI → ℕ
  | some (.inl _) => 1
  | _ => N
/-- What a duty hands over, on device `c`. -/
def payloadOf (c : Dev nD) (d : Fin 3) : Option CI → sProp 𝕄
  | some (.inl _) => rooms d c
  | some (.inr (false, b, r)) => lent ld b r c
  | some (.inr (true, b, r)) => landed ld b r c
  | none => iprop(emp)

omit [FloatOps F] in
instance payloadOf_storable (c : Dev nD) (d : Fin 3) (k : Option CI) : BI.Storable (upEmb : UEmb _ 𝕄) (payloadOf ld c d k) := by
  rcases k with _ | _ | ⟨_ | _, b, r⟩ <;> unfold payloadOf <;> infer_instance

/-- One round per cell. A barrier cell takes one unit from each peer; an end of a transfer takes one block's credit. -/
def sched : Rounds.Schedule (GSem nD τ sig) (Fin 3) 𝕄 where
  duties g r := if r = 0 ∧ g.1.2 = .tc then dutiesOf (role g.2) else ∅
  unitless _ := False
  amount g _ _ := amountOf (role g.2)
  payload g _ d := payloadOf ld g.1.1 d (role g.2)
  amount_pos g _ _ _ := by
    rcases role g.2 with _ | _ | _
    · exact N_pos
    · exact Nat.one_pos
    · exact N_pos

omit [FloatOps F] in
instance sched_payload_storable (g : GSem nD τ sig) (r : ℕ) (d : Fin 3) : BI.Storable (upEmb : UEmb _ 𝕄) ((sched ld).payload g r d) := by
  show BI.Storable upEmb (payloadOf ld g.1.1 d (role g.2)); infer_instance

section Tables
variable (b : Bool) (r : Fin 3) (c : Dev nD)

omit [FloatOps F] in
theorem duties_bar : (sched ld).duties (barCell c) 0 = Finset.univ := by
  dsimp only [sched]; rw [if_pos ⟨rfl, rfl⟩, role_bar]; rfl
omit [FloatOps F] in
theorem duties_snd : (sched ld).duties (sndCell b r c) 0 = {0} := by
  dsimp only [sched]; rw [if_pos ⟨rfl, rfl⟩, role_snd]; rfl
omit [FloatOps F] in
theorem duties_rcv : (sched ld).duties (rcvCell b r c) 0 = {0} := by
  dsimp only [sched]; rw [if_pos ⟨rfl, rfl⟩, role_rcv]; rfl
omit [FloatOps F] in
theorem duties_later (g : GSem nD τ sig) : ∀ n, 1 ≤ n → (sched ld).duties g n = ∅ := fun n hn => by
  dsimp only [sched]; rw [if_neg fun h => by omega]

omit [FloatOps F] in
theorem amount_bar (d : Fin 3) : (sched ld).amount (barCell c) 0 d = 1 := rfl
omit [FloatOps F] in
theorem amount_snd (d : Fin 3) : (sched ld).amount (sndCell b r c) 0 d = N := by dsimp only [sched]; rw [role_snd]; rfl
omit [FloatOps F] in
theorem amount_rcv (d : Fin 3) : (sched ld).amount (rcvCell b r c) 0 d = N := by dsimp only [sched]; rw [role_rcv]; rfl

omit [FloatOps F] in
theorem expect_bar : (sched ld).expect (barCell c) 0 = 3 := by
  unfold Schedule.expect Schedule.amountOf
  rw [duties_bar, Finset.sum_congr rfl fun d _ => amount_bar ld c d]; rfl
omit [FloatOps F] in
theorem expect_snd : (sched ld).expect (sndCell b r c) 0 = N := by
  unfold Schedule.expect Schedule.amountOf; rw [duties_snd, Finset.sum_singleton, amount_snd]
omit [FloatOps F] in
theorem expect_rcv : (sched ld).expect (rcvCell b r c) 0 = N := by
  unfold Schedule.expect Schedule.amountOf; rw [duties_rcv, Finset.sum_singleton, amount_rcv]

omit [FloatOps F] in
theorem payload_bar (d : Fin 3) : (sched ld).payload (barCell c) 0 d = rooms d c := rfl
omit [FloatOps F] in
theorem payload_snd (d : Fin 3) : (sched ld).payload (sndCell b r c) 0 d = lent ld b r c := by
  dsimp only [sched]; rw [role_snd]; rfl
omit [FloatOps F] in
theorem payload_rcv (d : Fin 3) : (sched ld).payload (rcvCell b r c) 0 d = landed ld b r c := by
  dsimp only [sched]; rw [role_rcv]; rfl

omit [FloatOps F] in
/-- The whole of a barrier round: the landing slots of the three peers. -/
theorem rest_bar : bigSep ((sched ld).duties (barCell c) 0 \ ∅) (fun d => (sched ld).payload (barCell c) 0 d)
    = iprop(rooms 0 c ∗ rooms 1 c ∗ rooms 2 c) := by
  rw [Finset.sdiff_empty, duties_bar, bigSep_univ_eq_bigSepL [0, 1, 2] (by decide) (by decide), bigSepL_cons_cons, bigSepL_cons_cons, bigSepL_singleton]
  rfl
omit [FloatOps F] in
theorem rest_snd : bigSep ((sched ld).duties (sndCell b r c) 0 \ ∅) (fun d => (sched ld).payload (sndCell b r c) 0 d) = lent ld b r c := by
  rw [Finset.sdiff_empty, duties_snd, bigSep_singleton, payload_snd]
omit [FloatOps F] in
theorem rest_rcv : bigSep ((sched ld).duties (rcvCell b r c) 0 \ ∅) (fun d => (sched ld).payload (rcvCell b r c) 0 d) = landed ld b r c := by
  rw [Finset.sdiff_empty, duties_rcv, bigSep_singleton, payload_rcv]

end Tables

/-! ## What a device owes at launch, and the order of the waits -/

/-- A landing end's credit in phase `b`, owed by the device whose slot-`r` block it takes. -/
abbrev owedX (b : Bool) (r : Fin 3) (c : Dev nD) : CellTallies nD τ sig Unit := tallyAt (rcvCell b r (dst c r)) () N
/-- The unit owed to the barrier of slot `r`'s sender. -/
abbrev owedB (r : Fin 3) (c : Dev nD) : CellTallies nD τ sig Unit := tallyAt (barCell (src c r)) () 1

/-- What is owed before the scatter's transfers. -/
def Oscat (c : Dev nD) : CellTallies nD τ sig Unit := 0 + owedX true 0 c + owedX true 1 c + owedX true 2 c
/-- What is owed before the gather's. -/
def Ogath (c : Dev nD) : CellTallies nD τ sig Unit := Oscat c + owedX false 0 c + owedX false 1 c + owedX false 2 c
/-- What is owed at launch. -/
def O₀ (c : Dev nD) : CellTallies nD τ sig Unit := Ogath c + owedB 2 c + owedB 1 c + owedB 0 c

def L (g : GSem nD τ sig) : Finset Unit := if g.1.2 = .tc then {()} else ∅
/-- A cell's place in the order: staging and sending ends, then the barrier, the gather's landings, the scatter's. -/
def levelOf : Option CI → ℕ
  | some (.inl _) => 1
  | some (.inr (true, false, _)) => 2
  | some (.inr (true, true, _)) => 3
  | _ => 0
def lv (g : GSem nD τ sig) (_ : Unit) : ℕ := levelOf (role g.2)

theorem L_of_ne (g : GSem nD τ sig) (h : g.1.2 ≠ .tc) : L g = ∅ := if_neg h
theorem L_tc (c : Dev nD) (sm : SemLoc sig) : L ((c : Thread nD τ), sm) = {()} := if_pos rfl

/-- Every cell owed to is one of a TensorCore and lies above level `n`. -/
def Above (n : ℕ) (O : CellTallies nD τ sig Unit) : Prop := ∀ g u, 0 < O g u → () ∈ L g ∧ n < lv g ()

theorem above_zero (n : ℕ) : Above n 0 := fun g u h => absurd h (Nat.lt_irrefl 0)
theorem above_add {n : ℕ} {O P : CellTallies nD τ sig Unit} (hO : Above n O) (hP : Above n P) : Above n (O + P) := fun g u h => by
  rw [Pi.add_apply, Finsupp.add_apply] at h
  rcases Nat.eq_zero_or_pos (O g u) with h0 | h0
  · exact hP g u (by omega)
  · exact hO g u h0
theorem above_tally {n k : ℕ} (c : Dev nD) (sm : SemLoc sig) (h : n < levelOf (role sm)) : Above n (tallyAt ((c : Thread nD τ), sm) () k) :=
  fun g u hg => by
    rw [tallyAt_apply] at hg
    by_cases e : g = ((c : Thread nD τ), sm) ∧ u = ()
    · rw [e.1]; exact ⟨by rw [L_tc]; exact Finset.mem_singleton_self _, h⟩
    · rw [if_neg e] at hg; exact absurd hg (Nat.lt_irrefl 0)

theorem above_owedX {n : ℕ} (b : Bool) (r : Fin 3) (c : Dev nD) (h : n < bif b then 3 else 2) : Above n (owedX b r c) :=
  above_tally _ _ (by rw [role_rcv]; cases b <;> exact h)
theorem above_owedB {n : ℕ} (r : Fin 3) (c : Dev nD) (h : n < 1) : Above n (owedB r c) := above_tally _ _ h

theorem above_Oscat {n : ℕ} (c : Dev nD) (h : n < 3) : Above n (Oscat c) :=
  above_add (above_add (above_add (above_zero n) (above_owedX true 0 c h)) (above_owedX true 1 c h)) (above_owedX true 2 c h)
theorem above_Ogath {n : ℕ} (c : Dev nD) (h : n < 2) : Above n (Ogath c) :=
  above_add (above_add (above_add (above_Oscat c (by omega)) (above_owedX false 0 c h)) (above_owedX false 1 c h)) (above_owedX false 2 c h)
theorem above_O₀ (c : Dev nD) : Above 0 (O₀ c) :=
  above_add (above_add (above_add (above_Ogath c (by omega)) (above_owedB 2 c Nat.one_pos)) (above_owedB 1 c Nat.one_pos)) (above_owedB 0 c Nat.one_pos)

omit [FloatOps F] in
/-- A wait is allowed on a cell at or below the level that everything owed lies above. -/
theorem mayWait_of_above (c : Dev nD) (sm : SemLoc sig) (n : ℕ) (hs : levelOf (role sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hs) (fun g u hg => (hO g u hg).2)

end Cert.KernelIdealAttn
-- ==== Proof.KernelIdeal.Steps.lean ====
/-
  One rule per step of the kernel's body: a signal to a peer, the wait at the barrier, a transfer, the wait on either end
  of a transfer, and — for the buffers a device fills piece by piece — the store of a piece and the load of one.
-/
module

public import proofs.«01_k».proof.Proof.KernelIdeal.Cells

@[expose] public section

set_option maxRecDepth 16384

noncomputable section

namespace Cert.KernelIdealAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (ld : Load F) (K : Dev nD × CI → ℕ)

/-! ## The standing facts -/

/-- Every cell's invariant, under the names `K`, and that every cell's round 0 is reached. -/
def records : sProp 𝕄 :=
  iprop((bigSep Finset.univ fun ck : Dev nD × CI => (cellInv ER (sched ld) (K ck) (cellAt ck.1 ck.2) : sProp 𝕄))
    ∗ (bigSep Finset.univ fun ck : Dev nD × CI => (reached ER (cellAt ck.1 ck.2) 0 : sProp 𝕄)) ∗ levAts L lv)

omit [FloatOps F] in
instance records_persistent : BI.Persistent (records ld K) := by unfold records; infer_instance

omit [FloatOps F] in
theorem records_inv (c : Dev nD) (k : CI) : records ld K ⊢ cellInv ER (sched ld) (K (c, k)) ((c : Thread nD τ), csem k) := by
  have h : (bigSep Finset.univ fun ck : Dev nD × CI => (cellInv ER (sched ld) (K ck) (cellAt ck.1 ck.2) : sProp 𝕄))
      ⊢ cellInv ER (sched ld) (K (c, k)) ((c : Thread nD τ), csem k) := bigSep_elim (Finset.mem_univ (c, k))
  unfold records; iintro ⟨H, -, -⟩
  iapply h; iexact H
omit [FloatOps F] in
theorem records_reached (c : Dev nD) (k : CI) : records ld K ⊢ reached ER ((c : Thread nD τ), csem k) 0 := by
  have h : (bigSep Finset.univ fun ck : Dev nD × CI => (reached ER (cellAt ck.1 ck.2) 0 : sProp 𝕄))
      ⊢ reached ER ((c : Thread nD τ), csem k) 0 := bigSep_elim (Finset.mem_univ (c, k))
  unfold records; iintro ⟨-, H, -⟩
  iapply h; iexact H
omit [FloatOps F] in
theorem records_lev : records ld K ⊢ levAts L lv := by
  unfold records; iintro ⟨-, -, H⟩; iexact H

/-- Device `c` owes `O`, whatever it has waited on. -/
def owing (c : Dev nD) (O : CellTallies nD τ sig Unit) : sProp 𝕄 := iprop(∃ W, owes (c : Thread nD τ) O W)

section Steps
variable (c : Dev nD) {α : Type} {Q : α → sProp (MT nD τ sig Unit (Elt F) ℕ UU ℕ)} {k : PUnit → Prog (TpuEff nD τ sig (Elt F) Λ₀ .tc) α}

/-- A signal to the sender of slot `r`: the device's two slots `r` go with it. -/
theorem wp_signal_peer (r : Fin 3) (n : Dev nD) (hn : n = src c r) (O : CellTallies nD τ sig Unit) (u : ℕ) (hu : u = 1) :
    iprop(records ld K ∗ owing c (O + owedB r c) ∗ dutyTok ER (barCell (src c r)) 0 r ∗ room false r c ∗ room true r c)
      ⊢ iprop((owing c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) barS u) k) Q) := by
  subst hn; subst hu
  iintro ⟨#HR, HO, Htok, Hg, Hs⟩ Hk
  unfold owing; icases HO with ⟨%W, HO⟩
  iapply (Rounds.wp_signal 𝒱₀ ER (sched ld) (c : Thread nD τ) none (dst := (src c r : Thread nD τ)) (κ := K (src c r, .inl ()))
      (d := r) (by rw [duties_bar]; exact Finset.mem_univ _) (amount_bar ld (src c r) r) () O rfl) $$ [HO Htok Hg Hs]
  · isplitr; · iapply (records_inv ld K (src c r) (.inl ())); iexact HR
    isplitl [HO]; · iexact HO
    isplitl [Htok]; · iexact Htok
    isplitl [Hg Hs]
    · rw [payload_bar]; unfold rooms; rw [dst_src]; isplitl [Hg] <;> iassumption
    · iapply (records_reached ld K (src c r) (.inl ())); iexact HR
  iintro HO; iapply Hk; iexists W; iexact HO

/-- The wait at the barrier: the slots of the three peers, and the barrier's counter at zero. -/
theorem wp_wait_bar (u : ℕ) (hu : u = 3) :
    iprop(records ld K ∗ owing c (Ogath c) ∗ cred (tallyAt (barCell c) () 3) ∗ atPos ER (barCell c) 0 ∅ 0)
      ⊢ iprop((iprop(owing c (Ogath c) ∗ rooms 0 c ∗ rooms 1 c ∗ rooms 2 c ∗ semVal (barCell c) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS u) k) Q) := by
  subst hu
  iintro ⟨#HR, HO, Hc, Hat⟩ Hk
  unfold owing; icases HO with ⟨%W, HO⟩
  iapply (Rounds.wp_wait_rest_token 𝒱₀ ER (sched ld) (c : Thread nD τ) none (κ := K (c, .inl ()))
      (wpE_semWait_eq 𝒱₀ (c : Thread nD τ) none Set.univ) (Set.mem_univ _) () (O := Ogath c) (W := W) (R := 0) (m := 0) (T := ∅)
      (by rw [expect_bar])) $$ [Hc HO Hat]
  · isplitr; · iapply (records_inv ld K c (.inl ())); iexact HR
    isplitl [Hc]; · iexact Hc
    isplitl [HO]; · iexact HO
    isplitr
    · iapply (mayWait_of_above c (.reg barS) 1 (le_refl _) (above_Ogath c (by omega))); iapply (records_lev ld K); iexact HR
    iexact Hat
  iintro ⟨HO, Hat, -, Hpay⟩
  ihave Hp := (Entails.of_eq (rest_bar ld c)) $$ Hpay
  icases Hp with ⟨H0, H1, H2⟩
  imod (Rounds.cell_close ER (sched ld) (Set.mem_univ (K (c, .inl ()))) (fun h => h) (R := 0 + 1) (duties_later ld (barCell c))) $$ [Hat] with Hz
  · isplitr; · iapply (records_inv ld K c (.inl ())); iexact HR
    iexact Hat
  iapply Hk
  isplitl [HO]; · iexists _; iexact HO
  isplitl [H0]; · iexact H0
  isplitl [H1]; · iexact H1
  isplitl [H2]; · iexact H2
  iexact Hz

/-- A transfer: the source is lent, the peer's slot is given away, and the credit of the sending end is gained. -/
theorem wp_send_peer (b : Bool) (r : Fin 3) (n : Dev nD) (hn : n = dst c r)
    {sm dm : Memref sig .tc .vmem S2x128x512 .bf16} (hsm : sm = srcM b r) (hdm : dm = dstM b r)
    {sS sR : DmaSem sig} (hsS : sS = sndS b r) (hsR : sR = rcvS b r)
    {hsc : (dm : Memref sig (Dev.tc n : Thread nD τ).2.kind .vmem S2x128x512 .bf16).view.ref.isScScratch = false}
    {hsrc : sm.view.WordExact} {hdst : dm.view.WordExact}
    {hsem : DmaTarget.Typed .vmem (SemLoc.dma sR) (.remote (Dev.tc n : Thread nD τ) dm (SemLoc.dma sS) hsc)}
    (O : CellTallies nD τ sig Unit) :
    iprop(records ld K ∗ lent ld b r c ∗ room b r (dst c r) ∗ owing c (O + owedX b r c)
        ∗ dutyTok ER (sndCell b r c) 0 0 ∗ dutyTok ER (rcvCell b r (dst c r)) 0 0)
      ⊢ iprop((iprop(owing c O ∗ cred (tallyAt (sndCell b r c) () N)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma sm (.remote (Dev.tc n : Thread nD τ) dm (.dma sS) hsc) (.dma sR) hsrc hdst hsem) k) Q) := by
  subst hn; subst hsm; subst hdm; subst hsS; subst hsR
  iintro ⟨#HR, Hsrc, Hdst, HO, HtS, HtR⟩ Hk
  unfold owing; icases HO with ⟨%W, HO⟩
  unfold lent room owns
  icases Hsrc with ⟨%fs, %hfs, Hsrc⟩
  icases Hdst with ⟨%Z, %fd, %hfd, Hdst⟩
  iapply (Rounds.wp_send_pointsTo 𝒱₀ ER (sched ld) (c : Thread nD τ) none (c' := (dst c r : Thread nD τ))
    (κ₁ := K (c, .inr (false, b, r))) (κ₂ := K (dst c r, .inr (true, b, r)))
    (r₁ := 0) (r₂ := 0) (d₁ := 0) (d₂ := 0) (fd := fd) (fs := fs) (q := shr b r)
    (by rw [duties_snd]; exact Finset.mem_singleton_self _) (by rw [duties_rcv]; exact Finset.mem_singleton_self _)
    () () N (dstM_amount b r _) (amount_snd ld b r c 0) (amount_rcv ld b r (dst c r) 0) O rfl (W := W)
    (by
      rw [payload_snd]; unfold lent owns
      iintro H; iexists fs; isplitr; · ipureintro; exact hfs
      iexact H)
    (by
      rw [payload_rcv]; unfold landed owns
      iintro H; iexists ((dstM b r).view.write (Elt F) fd ((srcM b r).view.read (Elt F) fs) Finset.univ); isplitr
      · ipureintro; rw [View.read_write_univ, src_dst]; exact hfs
      iexact H)) $$ [Hsrc Hdst HO HtS HtR]
  · isplitr; · iapply (records_inv ld K c (.inr (false, b, r))); iexact HR
    isplitr; · iapply (records_inv ld K (dst c r) (.inr (true, b, r))); iexact HR
    isplitl [Hsrc]; · iexact Hsrc
    isplitl [Hdst]; · iexact Hdst
    isplitl [HO]; · iexact HO
    isplitl [HtS]; · iexact HtS
    isplitr; · iapply (records_reached ld K c (.inr (false, b, r))); iexact HR
    isplitl [HtR]; · iexact HtR
    iapply (records_reached ld K (dst c r) (.inr (true, b, r))); iexact HR
  iintro ⟨Hc, HO⟩; iapply Hk; isplitl [HO]; · iexists W; iexact HO
  iexact Hc

/-- The wait on a landing end: the slot with the sender's block, and the counter at zero. -/
theorem wp_wait_rcv (b : Bool) (r : Fin 3) {sR : DmaSem sig} (hsR : sR = rcvS b r)
    {sm dm : Memref sig .tc .vmem S2x128x512 .bf16} (hdm : dm.view.dmaCredit = N) {hsrc : sm.view.WordExact} {hdst : dm.view.WordExact}
    (n : ℕ) (hlev : levelOf (role (.dma (rcvS b r))) ≤ n) {O : CellTallies nD τ sig Unit} (hO : Above n O) :
    iprop(records ld K ∗ owing c O ∗ cred (tallyAt (rcvCell b r c) () N) ∗ atPos ER (rcvCell b r c) 0 ∅ 0)
      ⊢ iprop((iprop(owing c O ∗ landed ld b r c ∗ semVal (rcvCell b r c) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR sm dm hsrc hdst) k) Q) := by
  subst hsR
  iintro ⟨#HR, HO, Hc, Hat⟩ Hk
  unfold owing; icases HO with ⟨%W, HO⟩
  iapply (Rounds.wp_wait_rest_token 𝒱₀ ER (sched ld) (c : Thread nD τ) none (κ := K (c, .inr (true, b, r)))
      (wpE_waitDma2_eq 𝒱₀ (c : Thread nD τ) none Set.univ) (Set.mem_univ _) () (O := O) (W := W) (R := 0) (m := 0) (T := ∅)
      (by rw [Nat.zero_add, hdm, expect_rcv])) $$ [Hc HO Hat]
  · isplitr; · iapply (records_inv ld K c (.inr (true, b, r))); iexact HR
    isplitl [Hc]; · rw [hdm]; iexact Hc
    isplitl [HO]; · iexact HO
    isplitr
    · iapply (mayWait_of_above c (.dma (rcvS b r)) n hlev hO); iapply (records_lev ld K); iexact HR
    iexact Hat
  iintro ⟨HO, Hat, -, Hpay⟩
  ihave Hp := (Entails.of_eq (rest_rcv ld b r c)) $$ Hpay
  imod (Rounds.cell_close ER (sched ld) (Set.mem_univ (K (c, .inr (true, b, r)))) (fun h => h) (R := 0 + 1) (duties_later ld (rcvCell b r c))) $$ [Hat] with Hz
  · isplitr; · iapply (records_inv ld K c (.inr (true, b, r))); iexact HR
    iexact Hat
  iapply Hk
  isplitl [HO]; · iexists _; iexact HO
  isplitl [Hp]; · iexact Hp
  iexact Hz

/-- The wait on a sending end, with nothing owed: the source, and the counter at zero. -/
theorem wp_wait_snd (b : Bool) (r : Fin 3) {sS : DmaSem sig} (hsS : sS = sndS b r)
    {sm dm : Memref sig .tc .vmem S2x128x512 .bf16} (hdm : dm.view.dmaCredit = N) {hsrc : sm.view.WordExact} {hdst : dm.view.WordExact} :
    iprop(records ld K ∗ owing c 0 ∗ cred (tallyAt (sndCell b r c) () N) ∗ atPos ER (sndCell b r c) 0 ∅ 0)
      ⊢ iprop((iprop(owing c 0 ∗ lent ld b r c ∗ semVal (sndCell b r c) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS sm dm hsrc hdst) k) Q) := by
  subst hsS
  iintro ⟨#HR, HO, Hc, Hat⟩ Hk
  unfold owing; icases HO with ⟨%W, HO⟩
  iapply (Rounds.wp_wait_rest_token 𝒱₀ ER (sched ld) (c : Thread nD τ) none (κ := K (c, .inr (false, b, r)))
      (wpE_waitDma2_eq 𝒱₀ (c : Thread nD τ) none Set.univ) (Set.mem_univ _) () (O := 0) (W := W) (R := 0) (m := 0) (T := ∅)
      (by rw [Nat.zero_add, hdm, expect_snd])) $$ [Hc HO Hat]
  · isplitr; · iapply (records_inv ld K c (.inr (false, b, r))); iexact HR
    isplitl [Hc]; · rw [hdm]; iexact Hc
    isplitl [HO]; · iexact HO
    isplitr; · rw [MayWait_zero]; iempintro
    iexact Hat
  iintro ⟨HO, Hat, -, Hpay⟩
  ihave Hp := (Entails.of_eq (rest_snd ld b r c)) $$ Hpay
  imod (Rounds.cell_close ER (sched ld) (Set.mem_univ (K (c, .inr (false, b, r)))) (fun h => h) (R := 0 + 1) (duties_later ld (sndCell b r c))) $$ [Hat] with Hz
  · isplitr; · iapply (records_inv ld K c (.inr (false, b, r))); iexact HR
    iexact Hat
  iapply Hk
  isplitl [HO]; · iexists _; iexact HO
  isplitl [Hp]; · iexact Hp
  iexact Hz

end Steps

/-! ## A buffer filled piece by piece -/

section Filled
variable {s : Shape} {e : EltTy} {cs : CoreSpace}

/-- The memref's elements are the device's own, and on `A` they hold what `G` says. -/
def filled (c : Dev nD) (M : Memref sig .tc cs s e) (A : Set s.Idx) (G : s.Idx → Elt F e) : sProp 𝕄 :=
  iprop(∃ f, ⌜∀ i ∈ A, M.view.read (Elt F) f i = G i⌝ ∗ (M.view.loc (c : Thread nD τ) ↦[M.view.set]{fullShare} f))

omit [FloatOps F] in
theorem filled_mono (c : Dev nD) (M : Memref sig .tc cs s e) {A B : Set s.Idx} (G : s.Idx → Elt F e) (h : B ⊆ A) :
    filled c M A G ⊢ filled (F := F) c M B G := by
  unfold filled; iintro ⟨%f, %hf, H⟩; iexists f; isplitr; · ipureintro; exact fun i hi => hf i (h hi)
  iexact H

omit [FloatOps F] in
theorem filled_of_owns (c : Dev nD) (M : Memref sig .tc cs s e) (A : Set s.Idx) (G : s.Idx → Elt F e) :
    owns (c : Thread nD τ) M fullShare G ⊢ filled (F := F) c M A G := by
  unfold filled owns; iintro ⟨%f, %hf, H⟩; iexists f; isplitr; · ipureintro; exact fun i _ => congrFun hf i
  iexact H

omit [FloatOps F] in
theorem filled_univ (c : Dev nD) (M : Memref sig .tc cs s e) (G : s.Idx → Elt F e) :
    filled c M Set.univ G ⊢ (owns (c : Thread nD τ) M fullShare G : sProp 𝕄) := by
  unfold filled owns; iintro ⟨%f, %hf, H⟩; iexists f; isplitr; · ipureintro; exact funext fun i => hf i trivial
  iexact H

variable (c : Dev nD) {α : Type} {Q : α → sProp (MT nD τ sig Unit (Elt F) ℕ UU ℕ)} {M : Memref sig .tc cs s e}
  {A : Set s.Idx} {G : s.Idx → Elt F e}

/-- The elements of a rectangle. -/
def on (r : Rect s) : Set s.Idx := Set.range fun j => r.emb j

/-- A load whose value the proof does not use. -/
theorem wp_load_any {r : LoadRect s} {hl : M.view.LoadsAt r} {k : (r.shape.Idx → Elt F e) → Prog (TpuEff nD τ sig (Elt F) Λ₀ .tc) α} :
    filled c M A G
      ⊢ iprop((∀ v, filled c M A G -∗ wp frame (wpE (defs₀ (F := F)) 𝒱₀ (c : Thread nD τ) none) Set.univ (k v) Q)
        -∗ wp frame (wpE (defs₀ (F := F)) 𝒱₀ (c : Thread nD τ) none) Set.univ (.op (.load M r hl) k) Q) := by
  unfold filled; iintro ⟨%f, %hf, H⟩ Hk
  iapply (wp_load 𝒱₀ (c : Thread nD τ) none Set.univ (m := M) (M.view.setOn_subset_set _)) $$ H; iintro H
  iapply Hk; iexists f; isplitr; · ipureintro; exact hf
  iexact H

/-- A load of a rectangle all of which is filled. -/
theorem wp_load_filled {r : Rect s} {hl : M.view.LoadsAt r.toLoadRect} (hr : ∀ j, r.emb j ∈ A)
    {k : (r.shape.Idx → Elt F e) → Prog (TpuEff nD τ sig (Elt F) Λ₀ .tc) α} :
    filled c M A G
      ⊢ iprop((filled c M A G -∗ wp frame (wpE (defs₀ (F := F)) 𝒱₀ (c : Thread nD τ) none) Set.univ (k fun j => G (r.emb j)) Q)
        -∗ wp frame (wpE (defs₀ (F := F)) 𝒱₀ (c : Thread nD τ) none) Set.univ (.op (.load M r.toLoadRect hl) k) Q) := by
  unfold filled; iintro ⟨%f, %hf, H⟩ Hk
  iapply (wp_load 𝒱₀ (c : Thread nD τ) none Set.univ (m := M) (M.view.setOn_subset_set _)) $$ H; iintro H
  rw [show M.view.readAt (Elt F) r.toLoadRect f = fun j => G (r.emb j) from funext fun j => hf _ (hr j)]
  iapply Hk; iexists f; isplitr; · ipureintro; exact hf
  iexact H

omit [FloatOps F] in
/-- Storing on a rectangle what `G` holds there fills the rectangle and keeps what was filled. -/
theorem read_write_filled {r : Rect s} {w : r.shape.Idx → Elt F e} {f : M.view.ty.Contents (Elt F)}
    (hf : ∀ i ∈ A, M.view.read (Elt F) f i = G i) (hw : ∀ j, w j = G (r.emb j)) :
    ∀ i ∈ A ∪ on r, M.view.read (Elt F) ((M.access r).write (Elt F) f w Finset.univ) i = G i := by
  intro i hi
  by_cases hr : i ∈ on r
  · obtain ⟨j, rfl⟩ := hr
    rw [← hw j]
    exact congrFun (View.read_write_univ (Val := Elt F) (v := M.access r) f w) j
  · rw [← hf i (hi.resolve_right hr), View.read_apply, View.read_apply, View.write_of_not_mem]
    intro hm
    obtain ⟨j, -, hj⟩ := Finset.mem_map.mp hm
    exact hr ⟨j, M.view.emb.injective hj⟩

theorem wp_store_filled {r : Rect s} {w : r.shape.Idx → Elt F e} {hx : (M.access r).Stores Finset.univ}
    {hm : (Finset.univ : Finset r.shape.Idx) = Finset.univ ∨ ∀ a, r.stride a = 1} (hw : ∀ j, w j = G (r.emb j))
    {k : PUnit → Prog (TpuEff nD τ sig (Elt F) Λ₀ .tc) α} :
    filled c M A G
      ⊢ iprop((filled c M (A ∪ on r) G -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  unfold filled; iintro ⟨%f, %hf, H⟩ Hk
  iapply (wp_store 𝒱₀ (c : Thread nD τ) none Set.univ (m := M) (r := r) (Mk := Finset.univ)
    ((View.setOn_subset_set _ _).trans (M.view.set_slice_subset r))) $$ H; iintro H
  iapply Hk; iexists _; isplitr
  · ipureintro; exact read_write_filled hf hw
  iexact H

end Filled

/-! ## A slot of a three-slot buffer -/

section Slot
variable (c : Dev nD) {α : Type} {Q : α → sProp (MT nD τ sig Unit (Elt F) ℕ UU ℕ)} {M : Memref sig .tc .vmem S3x2x128x512 .bf16}

omit [FloatOps F] in
theorem slotM_set (r : Fin 3) : (slotM M r).view.set = (M.view.slice (slotRect r)).set := View.set_reshape _ _

omit [FloatOps F] in
theorem slotM_read (r : Fin 3) (f : M.view.ty.Contents (Elt F)) :
    (slotM M r).view.read (Elt F) f = shapeCast S2x128x512 (M.view.readAt (Elt F) (slotRect r).toLoadRect f) shapeCasts_S1x2x128x512_S2x128x512 := rfl

/-- A load of a slot gives its block, up to the leading unit axis. -/
theorem wp_load_slot (r : Fin 3) {hl : M.view.LoadsAt (slotRect r).toLoadRect} {Z : S2x128x512.Idx → Elt F .bf16}
    {k : ((slotRect r).shape.Idx → Elt F .bf16) → Prog (TpuEff nD τ sig (Elt F) Λ₀ .tc) α} :
    owns (c : Thread nD τ) (slotM M r) fullShare Z
      ⊢ iprop((∀ v : S1x2x128x512.Idx → Elt F .bf16, ⌜shapeCast S2x128x512 v shapeCasts_S1x2x128x512_S2x128x512 = Z⌝ -∗ owns (c : Thread nD τ) (slotM M r) fullShare Z
          -∗ wp frame (wpE (defs₀ (F := F)) 𝒱₀ (c : Thread nD τ) none) Set.univ (k v) Q)
        -∗ wp frame (wpE (defs₀ (F := F)) 𝒱₀ (c : Thread nD τ) none) Set.univ (.op (.load M (slotRect r).toLoadRect hl) k) Q) := by
  unfold owns; iintro ⟨%f, %hf, H⟩ Hk
  have hS : (M.access (slotRect r)).set ⊆ (slotM M r).view.set := by rw [slotM_set]
  iapply (wp_load_rect 𝒱₀ (c : Thread nD τ) none Set.univ (m := M) (r := slotRect r) (q := fullShare) (f := f) hS) $$ H; iintro H
  iapply Hk
  · ipureintro; exact hf
  iexists f; isplitr; · ipureintro; exact hf
  iexact H

/-- A store of a block into a slot. -/
theorem wp_store_slot (r : Fin 3) {w : (slotRect r).shape.Idx → Elt F .bf16} {hx : (M.access (slotRect r)).Stores Finset.univ}
    {hm : (Finset.univ : Finset (slotRect r).shape.Idx) = Finset.univ ∨ ∀ a, (slotRect r).stride a = 1} {Z₀ Z : S2x128x512.Idx → Elt F .bf16}
    (hw : shapeCast S2x128x512 (s := S1x2x128x512) w shapeCasts_S1x2x128x512_S2x128x512 = Z)
    {k : PUnit → Prog (TpuEff nD τ sig (Elt F) Λ₀ .tc) α} :
    owns (c : Thread nD τ) (slotM M r) fullShare Z₀
      ⊢ iprop((owns (c : Thread nD τ) (slotM M r) fullShare Z -∗ wp frame (wpE (defs₀ (F := F)) 𝒱₀ (c : Thread nD τ) none) Set.univ (k ⟨⟩) Q)
        -∗ wp frame (wpE (defs₀ (F := F)) 𝒱₀ (c : Thread nD τ) none) Set.univ (.op (.store M (slotRect r) w Finset.univ hx hm) k) Q) := by
  unfold owns; iintro ⟨%f, %hf, H⟩ Hk
  have hS : (M.access (slotRect r)).setOn Finset.univ ⊆ (slotM M r).view.set := by rw [slotM_set]; exact View.setOn_subset_set _ _
  iapply (wp_store 𝒱₀ (c : Thread nD τ) none Set.univ (m := M) (r := slotRect r) (Mk := Finset.univ) (f := f)
    hS) $$ H; iintro H
  iapply Hk; iexists _; isplitr
  · ipureintro; rw [slotM_read, ← hw]
    exact congrArg (fun z => shapeCast S2x128x512 (s := S1x2x128x512) z shapeCasts_S1x2x128x512_S2x128x512) (View.read_write_univ (Val := Elt F) (v := M.access (slotRect r)) f w)
  iexact H

end Slot

end Cert.KernelIdealAttn
-- ==== Proof.KernelIdeal.Values.lean ====
/-
  What the kernel's buffers hold once filled, as functions of the devices' blocks: the projections of all rows, the
  attention output of every head, the partial results, the blocks exchanged and the result. Every piece the kernel
  stores is the piece of one of these.
-/
module

public import proofs.«01_k».proof.Proof.Gen.KernelIdeal.Skeleton
public import proofs.«01_k».proof.Proof.Gen.KernelIdeal
public import Idealize.ShloMosaic.Lib.Pipeline.Value
public import Idealize.ShloMosaic.Lib.ValueIdxCore

@[expose] public section

set_option maxRecDepth 16384

noncomputable section

namespace Cert.KernelIdealAttn

open Cert.KernelIdeal Cert.KernelIdeal.Gen
open Idealize.ShloMosaic Idealize.ShloMosaic.ValueIdx

variable {F : FTy → Type} [FloatOps F]

/-! ## Functions of the blocks -/

/-- The rows of batch `b` of one device's block. -/
def xrows (b : Fin 2) (x : FVec F S2x128x512 .bf16) : FVec F S128x512 .bf16 := if b = 0 then k0_pay6 x else k0_pay10 x

/-- Their product with `w`. -/
def projRaw (w : FVec F S512x512 .bf16) (xr : FVec F S128x512 .bf16) : FVec F S128x512 .f32 :=
  matmul dot_S128x512_S512x512_S128x512_1_0_0_1_n_n none xr w (constant S128x512 .f32 0x00000000#32)

/-- Their projection by `w`: the product, cast. -/
def projFlat (w : FVec F S512x512 .bf16) (xr : FVec F S128x512 .bf16) : FVec F S128x512 .bf16 := truncf .bf16 (projRaw w xr) bitsLt_bf16_f32

/-- The projection as the piece stored. -/
def projRows (w : FVec F S512x512 .bf16) (xr : FVec F S128x512 .bf16) : FVec F S1x128x512 .bf16 :=
  shapeCast S1x128x512 (projFlat w xr) shapeCasts_S128x512_S1x128x512

set_option backward.proofsInPublic true in
/-- The projection of all rows: those of sequence block `e` come from device `e`'s block. -/
def projAll (w : FVec F S512x512 .bf16) (X : Dev nD → FVec F S2x128x512 .bf16) : FVec F S2x512x512 .bf16 := fun i =>
  projRows w (xrows (i 0) (X (⟨(i 1).val / 128, by have h : (i 1).val < 512 := (i 1).isLt; show _ < 4; omega⟩ : Dev nD)))
    (ix3 (0 : Fin 1) (⟨(i 1).val % 128, Nat.mod_lt _ (by decide)⟩ : Fin 128) (i 2 : Fin 512))

/-- One head's columns. -/
def headCols (o : ℕ) (h : S512x512.Slices ![0, o] S512x64) (v : FVec F S512x512 .bf16) : FVec F S512x64 .bf16 := extractStridedSlice S512x64 ![0, o] v h

/-- One head's products of queries and keys. -/
def headDots (o : ℕ) (h : S512x512.Slices ![0, o] S512x64) (q k : FVec F S512x512 .bf16) : FVec F S512x512 .f32 :=
  matmul dot_S512x64_S512x64_S512x512_1_1_0_0_n_n none (headCols o h q) (headCols o h k) (constant S512x512 .f32 0x00000000#32)

/-- Their exponentials, after scaling by an eighth. -/
def headExps (s : FVec F S512x512 .f32) : FVec F S512x512 .f32 := exp (mulf s (broadcast S512x512 (Scalar.ofBits .f32 0x3E000000#32)))

/-- The sum of a row's exponentials. -/
def headDen (s : FVec F S512x512 .f32) : FVec F S512x1 .f32 :=
  shapeCast S512x1 (multiReduction .add [1] S512 (headExps s) 0x00000000#32 reduces_S512x512_S512 (.inl rfl) rfl) shapeCasts_S512_S512x1

/-- The values weighted by the exponentials. -/
def headNum (s : FVec F S512x512 .f32) (v : FVec F S512x64 .bf16) : FVec F S512x64 .f32 :=
  matmul dot_S512x512_S512x64_S512x64_1_0_0_1_n_n none (truncf .bf16 (headExps s) bitsLt_bf16_f32) v (constant S512x64 .f32 0x00000000#32)

/-- Their quotient, cast. -/
def headQuot (n d : FVec F S512x64 .f32) : FVec F S512x64 .bf16 := truncf .bf16 (divf n d) bitsLt_bf16_f32

/-- One head's attention, from its columns of the three projections. -/
def headFlat (o : ℕ) (h : S512x512.Slices ![0, o] S512x64) (q k v : FVec F S512x512 .bf16) : FVec F S512x64 .bf16 :=
  headQuot (headNum (headDots o h q k) (headCols o h v)) (broadcastTo S512x64 (headDen (headDots o h q k)) broadcasts_S512x1_S512x64)

/-- The attention as the piece stored. -/
def headOut (o : ℕ) (h : S512x512.Slices ![0, o] S512x64) (q k v : FVec F S512x512 .bf16) : FVec F S1x512x64 .bf16 :=
  shapeCast S1x512x64 (headFlat o h q k v) shapeCasts_S512x64_S1x512x64

/-- Batch `b` of a buffer. -/
def plane {α : Type} (G : S2x512x512.Idx → α) (b : Fin 2) : S512x512.Idx → α := fun i => G (ix3 b (i 0 : Fin 512) (i 1 : Fin 512))

theorem head_slices (h : Fin 8) : S512x512.Slices ![0, 64 * h.val] S512x64 := ⟨rfl, by revert h; decide⟩

set_option backward.proofsInPublic true in
/-- Every head's attention: columns `64 h … 64 h + 63` are head `h`'s. -/
def headsAll (Q K V : S2x512x512.Idx → Elt F .bf16) : S2x512x512.Idx → Elt F .bf16 := fun i =>
  have hi : (i 2).val < 512 := (i 2).isLt
  headOut (64 * ((i 2).val / 64)) (head_slices ⟨(i 2).val / 64, by omega⟩) (plane Q (i 0)) (plane K (i 0)) (plane V (i 0))
    (ix3 (0 : Fin 1) (i 1 : Fin 512) (⟨(i 2).val % 64, Nat.mod_lt _ (by decide)⟩ : Fin 64))

/-- One batch's output projection. -/
def outPlane (wo : FVec F S512x512 .bf16) (o : FVec F S512x512 .bf16) : FVec F S1x512x512 .f32 :=
  shapeCast S1x512x512 (matmul dot_S512x512_S512x512_S512x512_1_0_0_1_n_n none o wo (constant S512x512 .f32 0x00000000#32)) shapeCasts_S512x512_S1x512x512

/-- A device's partial results, all rows. -/
def partAll (wo : FVec F S512x512 .bf16) (O : S2x512x512.Idx → Elt F .bf16) : S2x512x512.Idx → Elt F .f32 := fun i =>
  outPlane wo (plane O (i 0)) (ix3 (0 : Fin 1) (i 1 : Fin 512) (i 2 : Fin 512))

set_option backward.proofsInPublic true in
/-- The rows of sequence block `d`. -/
def rowsOf (y : S2x512x512.Idx → Elt F .f32) (d : Dev nD) : FVec F S2x128x512 .f32 := fun j =>
  y (ix3 (j 0 : Fin 2) (⟨128 * d.val + (j 1).val, by have h : (j 1).val < 128 := (j 1).isLt; have hd : d.val < 4 := d.isLt; omega⟩ : Fin 512) (j 2 : Fin 512))

/-- The device's own rows and the three received blocks, added in the order received. -/
def sumUp (own : FVec F S2x128x512 .f32) (r2 r0 r1 : FVec F S2x128x512 .bf16) : FVec F S2x128x512 .f32 :=
  addf (addf (addf own (extf .f32 r2 bitsLt_bf16_f32)) (extf .f32 r0 bitsLt_bf16_f32)) (extf .f32 r1 bitsLt_bf16_f32)

/-! ## The pieces -/

section Pieces

omit [FloatOps F] in
/-- Indices of a rank-3 buffer are equal when their three coordinates are. -/
theorem idx3_ext {n0 n1 n2 : ℕ} {i j : (⟨3, ![n0, n1, n2]⟩ : Shape).Idx} (h0 : (i 0).val = (j 0).val) (h1 : (i 1).val = (j 1).val) (h2 : (i 2).val = (j 2).val) : i = j := by
  funext a; match a with | ⟨0, _⟩ => exact Fin.ext h0 | ⟨1, _⟩ => exact Fin.ext h1 | ⟨2, _⟩ => exact Fin.ext h2

variable (off : Fin 3 → ℕ) (i0 i1 i2 : ℕ) (hoff : off = ![i0, i1, i2])
include hoff

/-- Rows projected from device `e`'s block are the filled projection's rows of sequence block `e`. -/
theorem projAll_piece (b : Fin 2) (e : Dev nD) (h0 : i0 = b.val) (h1 : i1 = 128 * e.val) (h2 : i2 = 0) (inb : ∀ a, off a + S1x128x512.size a ≤ S2x512x512.size a)
    (w : FVec F S512x512 .bf16) (X : Dev nD → FVec F S2x128x512 .bf16) (j : S1x128x512.Idx) :
    projRows w (xrows b (X e)) j = projAll w X ((Rect.unit (s := S2x512x512) off S1x128x512.size inb).emb j) := by
  subst hoff; subst h0; subst h1; subst h2
  have j0 : (j 0).val < 1 := (j 0).isLt
  have j1 : (j 1).val < 128 := (j 1).isLt
  have e0 : ((Rect.unit (s := S2x512x512) ![b.val, 128 * e.val, 0] S1x128x512.size inb).emb j) 0 = b :=
    Fin.ext (by show b.val + 1 * (j 0).val = b.val; omega)
  have e1 : (((Rect.unit (s := S2x512x512) ![b.val, 128 * e.val, 0] S1x128x512.size inb).emb j) 1).val = 128 * e.val + (j 1).val := by
    show 128 * e.val + 1 * (j 1).val = _; omega
  have e2 : (((Rect.unit (s := S2x512x512) ![b.val, 128 * e.val, 0] S1x128x512.size inb).emb j) 2).val = (j 2).val := by
    show 0 + 1 * (j 2).val = _; omega
  unfold projAll
  rw [e0]
  congr 1
  · congr 3; exact Fin.ext (by show e.val = _ / 128; rw [e1]; omega)
  · exact idx3_ext (by show (j 0).val = 0; omega) (by show (j 1).val = _ % 128; rw [e1]; omega) (by show (j 2).val = _; rw [e2])

/-- A head's attention is the filled buffer's columns of that head. -/
theorem headsAll_piece (b : Fin 2) (h : Fin 8) (h0 : i0 = b.val) (h1 : i1 = 0) (h2 : i2 = 64 * h.val) (inb : ∀ a, off a + S1x512x64.size a ≤ S2x512x512.size a)
    (Q K V : S2x512x512.Idx → Elt F .bf16) (j : S1x512x64.Idx) :
    headOut (64 * h.val) (head_slices h) (plane Q b) (plane K b) (plane V b) j
      = headsAll Q K V ((Rect.unit (s := S2x512x512) off S1x512x64.size inb).emb j) := by
  subst hoff; subst h0; subst h1; subst h2
  have j0 : (j 0).val < 1 := (j 0).isLt
  have j2 : (j 2).val < 64 := (j 2).isLt
  have e0 : ((Rect.unit (s := S2x512x512) ![b.val, 0, 64 * h.val] S1x512x64.size inb).emb j) 0 = b :=
    Fin.ext (by show b.val + 1 * (j 0).val = b.val; omega)
  have e1 : (((Rect.unit (s := S2x512x512) ![b.val, 0, 64 * h.val] S1x512x64.size inb).emb j) 1).val = (j 1).val := by
    show 0 + 1 * (j 1).val = _; omega
  have e2 : (((Rect.unit (s := S2x512x512) ![b.val, 0, 64 * h.val] S1x512x64.size inb).emb j) 2).val = 64 * h.val + (j 2).val := by
    show 64 * h.val + 1 * (j 2).val = _; omega
  have eh : h.val = (((Rect.unit (s := S2x512x512) ![b.val, 0, 64 * h.val] S1x512x64.size inb).emb j) 2).val / 64 := by rw [e2]; omega
  have key : ∀ (o o' : ℕ) (ho : S512x512.Slices ![0, o] S512x64) (ho' : S512x512.Slices ![0, o'] S512x64), o = o' →
      ∀ (q k v : FVec F S512x512 .bf16) (x y : S1x512x64.Idx), x = y → headOut o ho q k v x = headOut o' ho' q k v y := by
    intro o o' ho ho' hh q k v x y hxy; subst hh; rw [hxy]
  unfold headsAll
  simp only [e0]
  refine key _ _ _ _ (by rw [← eh]) _ _ _ _ _ (idx3_ext (by show (j 0).val = 0; omega) (by show (j 1).val = _; rw [e1]) (by show (j 2).val = _ % 64; rw [e2]; omega))

/-- A batch's output projection is the filled buffer's rows of that batch. -/
theorem partAll_piece (b : Fin 2) (h0 : i0 = b.val) (h1 : i1 = 0) (h2 : i2 = 0) (inb : ∀ a, off a + S1x512x512.size a ≤ S2x512x512.size a)
    (wo : FVec F S512x512 .bf16) (O : S2x512x512.Idx → Elt F .bf16) (j : S1x512x512.Idx) :
    outPlane wo (plane O b) j = partAll wo O ((Rect.unit (s := S2x512x512) off S1x512x512.size inb).emb j) := by
  subst hoff; subst h0; subst h1; subst h2
  have j0 : (j 0).val < 1 := (j 0).isLt
  have e0 : ((Rect.unit (s := S2x512x512) ![b.val, 0, 0] S1x512x512.size inb).emb j) 0 = b :=
    Fin.ext (by show b.val + 1 * (j 0).val = b.val; omega)
  unfold partAll
  rw [e0]
  congr 1
  exact idx3_ext (by show (j 0).val = 0; omega) (by show (j 1).val = 0 + 1 * (j 1).val; omega) (by show (j 2).val = 0 + 1 * (j 2).val; omega)

omit [FloatOps F] in
/-- Reading one batch of a buffer, the unit axis dropped, is the plane. -/
theorem plane_piece {e : EltTy} (b : Fin 2) (h0 : i0 = b.val) (h1 : i1 = 0) (h2 : i2 = 0) (inb : ∀ a, off a + S1x512x512.size a ≤ S2x512x512.size a)
    (G : S2x512x512.Idx → Elt F e) :
    shapeCast S512x512 (s := S1x512x512) (fun j => G ((Rect.unit (s := S2x512x512) off S1x512x512.size inb).emb j)) shapeCasts_S1x512x512_S512x512 = plane G b := by
  subst hoff; subst h0; subst h1; subst h2
  funext i
  rw [shapeCast_apply _ _ i (ix3 (0 : Fin 1) (i 0 : Fin 512) (i 1 : Fin 512) : S1x512x512.Idx)
    (by rw [Shape.rowMajor_val_three, Shape.rowMajor_val_two]; show _ = _; simp)]
  unfold plane
  congr 1
  exact idx3_ext (by show b.val + 1 * 0 = b.val; omega) (by show 0 + 1 * (i 0).val = (i 0).val; omega) (by show 0 + 1 * (i 1).val = (i 1).val; omega)

omit [FloatOps F] in
/-- Reading the rows of one sequence block. -/
theorem rows_piece (d : Dev nD) (h0 : i0 = 0) (h1 : i1 = 128 * d.val) (h2 : i2 = 0) (inb : ∀ a, off a + S2x128x512.size a ≤ S2x512x512.size a)
    (y : S2x512x512.Idx → Elt F .f32) :
    (fun j : S2x128x512.Idx => y ((Rect.unit (s := S2x512x512) off S2x128x512.size inb).emb j)) = rowsOf y d := by
  subst hoff; subst h0; subst h1; subst h2
  funext j; unfold rowsOf
  congr 1
  exact idx3_ext (by show 0 + 1 * (j 0).val = (j 0).val; omega) (by show 128 * d.val + 1 * (j 1).val = 128 * d.val + (j 1).val; omega) (by show 0 + 1 * (j 2).val = (j 2).val; omega)

end Pieces

end Cert.KernelIdealAttn
-- ==== Proof.KernelIdeal.Model.lean ====
/-
  The run as a function of the devices' blocks, and the accesses of the filled buffers: whole buffers, blocks of rows,
  columns of a head, planes of a batch.
-/
module

public import proofs.«01_k».proof.Proof.KernelIdeal.Steps
public import proofs.«01_k».proof.Proof.KernelIdeal.Values

@[expose] public section

set_option maxRecDepth 16384

noncomputable section

namespace Cert.KernelIdealAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## The model -/

/-- What the devices hold at the start: activations and weights. -/
structure Ins (F : FTy → Type) where
  x : Dev nD → FVec F S2x128x512 .bf16
  wq : Dev nD → FVec F S512x512 .bf16
  wk : Dev nD → FVec F S512x512 .bf16
  wv : Dev nD → FVec F S512x512 .bf16
  wo : Dev nD → FVec F S512x512 .bf16

variable (ins : Ins F)

/-- Device `c`'s queries, of all rows. -/
def Ins.Q (c : Dev nD) : FVec F S2x512x512 .bf16 := projAll (ins.wq c) ins.x
/-- Its keys. -/
def Ins.K (c : Dev nD) : FVec F S2x512x512 .bf16 := projAll (ins.wk c) ins.x
/-- Its values. -/
def Ins.V (c : Dev nD) : FVec F S2x512x512 .bf16 := projAll (ins.wv c) ins.x
/-- The attention of its heads. -/
def Ins.O (c : Dev nD) : FVec F S2x512x512 .bf16 := headsAll (ins.Q c) (ins.K c) (ins.V c)
/-- Its partial results. -/
def Ins.Y (c : Dev nD) : FVec F S2x512x512 .f32 := partAll (ins.wo c) (ins.O c)
/-- The blocks exchanged. -/
def Ins.load : Load F := ⟨ins.x, fun c d => truncf .bf16 (rowsOf (ins.Y c) d) bitsLt_bf16_f32⟩
/-- Its result. -/
def Ins.out (c : Dev nD) : FVec F S2x128x512 .f32 :=
  sumUp (rowsOf (ins.Y c) c) (ins.load.T (src c 2) c) (ins.load.T (src c 0) c) (ins.load.T (src c 1) c)

/-! ## Whole buffers -/

section Whole
variable {s : Shape} {e : EltTy} {cs : CoreSpace} (c : Dev nD) {α : Type} {Q : α → sProp (MT nD τ sig Unit (Elt F) ℕ UU ℕ)} {M : Memref sig .tc cs s e}
  {G : s.Idx → Elt F e} {off : Fin s.rank → ℕ} {inb : ∀ a, off a + s.size a ≤ s.size a}

omit [FloatOps F] in
theorem emb_full (j : s.Idx) : (Rect.unit (s := s) off s.size inb).emb j = j :=
  funext fun a => Fin.ext (by have := inb a; show off a + 1 * (j a).val = (j a).val; omega)

/-- A load of a whole buffer. -/
theorem wp_load_whole (q : PosShare TreeShare) {hl : M.view.LoadsAt (Rect.unit (s := s) off s.size inb).toLoadRect}
    {k : (s.Idx → Elt F e) → Prog (TpuEff nD τ sig (Elt F) Λ₀ .tc) α} :
    owns (c : Thread nD τ) M q G
      ⊢ iprop((owns (c : Thread nD τ) M q G -∗ wp frame (wpE (defs₀ (F := F)) 𝒱₀ (c : Thread nD τ) none) Set.univ (k G) Q)
        -∗ wp frame (wpE (defs₀ (F := F)) 𝒱₀ (c : Thread nD τ) none) Set.univ (.op (.load M (Rect.unit (s := s) off s.size inb).toLoadRect hl) k) Q) := by
  unfold owns; iintro ⟨%f, %hf, H⟩ Hk
  iapply (wp_load 𝒱₀ (c : Thread nD τ) none Set.univ (m := M) (M.view.setOn_subset_set _)) $$ H; iintro H
  rw [show M.view.readAt (Elt F) (Rect.unit (s := s) off s.size inb).toLoadRect f = G from funext fun j => (congrFun hf _).trans (congrArg G (emb_full (inb := inb) j))]
  iapply Hk; iexists f; isplitr; · ipureintro; exact hf
  iexact H

/-- A store of a whole buffer. -/
theorem wp_store_whole {w : s.Idx → Elt F e} {hx : (M.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} :
    owns (c : Thread nD τ) M fullShare G
      ⊢ iprop((owns (c : Thread nD τ) M fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := s) off s.size inb) w Finset.univ hx hm) k) Q) := by
  iintro H Hk
  ihave H := (show owns (c : Thread nD τ) M fullShare G ⊢ (filled (F := F) c M ∅ w : sProp 𝕄) from by
    unfold owns filled; iintro ⟨%f, %hf, H⟩; iexists f; isplitr; · ipureintro; exact fun i hi => hi.elim
    iexact H) $$ H
  iapply (wp_store_filled c (G := w) (fun j => congrArg w (emb_full (inb := inb) j).symm)) $$ H; iintro H
  iapply Hk
  iapply (filled_univ c M w)
  iapply (filled_mono c M w (A := ∅ ∪ on (Rect.unit (s := s) off s.size inb)) (B := Set.univ) (fun i _ => Or.inr ⟨i, emb_full (inb := inb) i⟩)); iexact H

end Whole

/-! ## Pieces of a filled buffer -/

/-- The rows of batch `b` and sequence block `e`. -/
def rowsAt (b : Fin 2) (e : Dev nD) : Set S2x512x512.Idx := {i | (i 0).val = b.val ∧ (i 1).val / 128 = e.val}
/-- The columns of head `h` in batch `b`. -/
def headAt (b : Fin 2) (h : Fin 8) : Set S2x512x512.Idx := {i | (i 0).val = b.val ∧ (i 2).val / 64 = h.val}
/-- Batch `b`. -/
def planeAt (b : Fin 2) : Set S2x512x512.Idx := {i | (i 0).val = b.val}

/-- The row blocks of a device and its three peers, of both batches, are all rows. -/
theorem rows_cover (c : Dev nD) (i : S2x512x512.Idx) :
    i ∈ ((((((((∅ ∪ rowsAt 0 c) ∪ rowsAt 1 c) ∪ rowsAt 0 (src c 2)) ∪ rowsAt 1 (src c 2)) ∪ rowsAt 0 (src c 0)) ∪ rowsAt 1 (src c 0)) ∪ rowsAt 0 (src c 1)) ∪ rowsAt 1 (src c 1) : Set S2x512x512.Idx) := by
  have h1 : (i 1).val < 512 := (i 1).isLt
  have hc : c.val < 4 := c.isLt
  have h0 : (i 0).val = 0 ∨ (i 0).val = 1 := by have : (i 0).val < 2 := (i 0).isLt; omega
  have he : (i 1).val / 128 = c.val ∨ (i 1).val / 128 = (src c 2).val ∨ (i 1).val / 128 = (src c 0).val ∨ (i 1).val / 128 = (src c 1).val := by
    show _ ∨ _ = (c.val + 2 + 1) % 4 ∨ _ = (c.val + 0 + 1) % 4 ∨ _ = (c.val + 1 + 1) % 4
    omega
  simp only [Set.mem_union, rowsAt, Set.mem_setOf_eq]
  rcases h0 with h0 | h0 <;> rcases he with he | he | he | he <;> simp [h0, he]

/-- The eight heads of a batch are the batch. -/
theorem heads_cover (b : Fin 2) (A : Set S2x512x512.Idx) (i : S2x512x512.Idx) (hi : i ∈ planeAt b) :
    i ∈ ((((((((A ∪ headAt b 0) ∪ headAt b 1) ∪ headAt b 2) ∪ headAt b 3) ∪ headAt b 4) ∪ headAt b 5) ∪ headAt b 6) ∪ headAt b 7 : Set S2x512x512.Idx) := by
  have h2 : (i 2).val < 512 := (i 2).isLt
  have hi' : (i 0).val = b.val := hi
  have he : (i 2).val / 64 = 0 ∨ (i 2).val / 64 = 1 ∨ (i 2).val / 64 = 2 ∨ (i 2).val / 64 = 3 ∨ (i 2).val / 64 = 4 ∨ (i 2).val / 64 = 5 ∨ (i 2).val / 64 = 6 ∨ (i 2).val / 64 = 7 := by omega
  simp only [Set.mem_union, headAt, Set.mem_setOf_eq]
  rcases he with he | he | he | he | he | he | he | he <;> simp [hi', he]

/-- The two batches are the buffer. -/
theorem planes_cover (i : S2x512x512.Idx) : i ∈ ((∅ ∪ planeAt 0) ∪ planeAt 1 : Set S2x512x512.Idx) := by
  have h0 : (i 0).val = 0 ∨ (i 0).val = 1 := by have : (i 0).val < 2 := (i 0).isLt; omega
  rcases h0 with h | h
  · exact Or.inl (Or.inr h)
  · exact Or.inr h

section Pieces
variable (c : Dev nD) {α : Type} {Q : α → sProp (MT nD τ sig Unit (Elt F) ℕ UU ℕ)} {e : EltTy} {M : Memref sig .tc .vmem S2x512x512 e}
  {A : Set S2x512x512.Idx} {G : S2x512x512.Idx → Elt F e} {off : Fin 3 → ℕ}

/-- A store of a row block of a projection. -/
theorem wp_store_rows {G : S2x512x512.Idx → Elt F .bf16} {M : Memref sig .tc .vmem S2x512x512 .bf16}
    (b : Fin 2) (d : Dev nD) (hoff : off = ![b.val, 128 * d.val, 0]) {inb : ∀ a, off a + S1x128x512.size a ≤ S2x512x512.size a}
    {w : S1x128x512.Idx → Elt F .bf16} (wt : FVec F S512x512 .bf16) (X : Dev nD → FVec F S2x128x512 .bf16) (hG : G = projAll wt X)
    (hw : w = projRows wt (xrows b (X d)))
    {hx : (M.access (Rect.unit (s := S2x512x512) off S1x128x512.size inb)).Stores Finset.univ}
    {hm : (Finset.univ : Finset (Rect.unit (s := S2x512x512) off S1x128x512.size inb).shape.Idx) = Finset.univ ∨ ∀ a, (Rect.unit (s := S2x512x512) off S1x128x512.size inb).stride a = 1}
    {k : PUnit → Prog (TpuEff nD τ sig (Elt F) Λ₀ .tc) α} :
    filled c M A G
      ⊢ iprop((filled c M (A ∪ rowsAt b d) G -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := S2x512x512) off S1x128x512.size inb) w Finset.univ hx hm) k) Q) := by
  iintro H Hk
  iapply (wp_store_filled c (G := G) (fun j => by rw [hG, hw]; exact projAll_piece off _ _ _ hoff b d rfl rfl rfl inb wt X j)) $$ H; iintro H
  iapply Hk
  iapply (filled_mono c M G (Set.union_subset_union_right A ?_)) $$ H
  rintro i ⟨hi0, hi1⟩
  refine ⟨(ix3 (0 : Fin 1) (⟨(i 1).val % 128, Nat.mod_lt _ (by decide)⟩ : Fin 128) (i 2 : Fin 512) : S1x128x512.Idx), ?_⟩
  subst hoff
  exact idx3_ext (by show b.val + 1 * 0 = (i 0).val; omega) (by show 128 * d.val + 1 * ((i 1).val % 128) = _; omega) (by show 0 + 1 * (i 2).val = _; omega)

/-- A store of a head's attention. -/
theorem wp_store_head {G : S2x512x512.Idx → Elt F .bf16} {M : Memref sig .tc .vmem S2x512x512 .bf16}
    (b : Fin 2) (h : Fin 8) (hoff : off = ![b.val, 0, 64 * h.val]) {inb : ∀ a, off a + S1x512x64.size a ≤ S2x512x512.size a}
    {w : S1x512x64.Idx → Elt F .bf16} (Qa Ka Va : S2x512x512.Idx → Elt F .bf16) (hG : G = headsAll Qa Ka Va)
    (hw : w = headOut (64 * h.val) (head_slices h) (plane Qa b) (plane Ka b) (plane Va b))
    {hx : (M.access (Rect.unit (s := S2x512x512) off S1x512x64.size inb)).Stores Finset.univ}
    {hm : (Finset.univ : Finset (Rect.unit (s := S2x512x512) off S1x512x64.size inb).shape.Idx) = Finset.univ ∨ ∀ a, (Rect.unit (s := S2x512x512) off S1x512x64.size inb).stride a = 1}
    {k : PUnit → Prog (TpuEff nD τ sig (Elt F) Λ₀ .tc) α} :
    filled c M A G
      ⊢ iprop((filled c M (A ∪ headAt b h) G -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := S2x512x512) off S1x512x64.size inb) w Finset.univ hx hm) k) Q) := by
  iintro H Hk
  iapply (wp_store_filled c (G := G) (fun j => by rw [hG, hw]; exact headsAll_piece off _ _ _ hoff b h rfl rfl rfl inb Qa Ka Va j)) $$ H; iintro H
  iapply Hk
  iapply (filled_mono c M G (Set.union_subset_union_right A ?_)) $$ H
  rintro i ⟨hi0, hi2⟩
  refine ⟨(ix3 (0 : Fin 1) (i 1 : Fin 512) (⟨(i 2).val % 64, Nat.mod_lt _ (by decide)⟩ : Fin 64) : S1x512x64.Idx), ?_⟩
  subst hoff
  exact idx3_ext (by show b.val + 1 * 0 = (i 0).val; omega) (by show 0 + 1 * (i 1).val = _; omega) (by show 64 * h.val + 1 * ((i 2).val % 64) = _; omega)

/-- A store of a batch of partial results. -/
theorem wp_store_plane {G : S2x512x512.Idx → Elt F .f32} {M : Memref sig .tc .vmem S2x512x512 .f32}
    (b : Fin 2) (hoff : off = ![b.val, 0, 0]) {inb : ∀ a, off a + S1x512x512.size a ≤ S2x512x512.size a}
    {w : S1x512x512.Idx → Elt F .f32} (wt : FVec F S512x512 .bf16) (Oa : S2x512x512.Idx → Elt F .bf16) (hG : G = partAll wt Oa)
    (hw : w = outPlane wt (plane Oa b))
    {hx : (M.access (Rect.unit (s := S2x512x512) off S1x512x512.size inb)).Stores Finset.univ}
    {hm : (Finset.univ : Finset (Rect.unit (s := S2x512x512) off S1x512x512.size inb).shape.Idx) = Finset.univ ∨ ∀ a, (Rect.unit (s := S2x512x512) off S1x512x512.size inb).stride a = 1}
    {k : PUnit → Prog (TpuEff nD τ sig (Elt F) Λ₀ .tc) α} :
    filled c M A G
      ⊢ iprop((filled c M (A ∪ planeAt b) G -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := S2x512x512) off S1x512x512.size inb) w Finset.univ hx hm) k) Q) := by
  iintro H Hk
  iapply (wp_store_filled c (G := G) (fun j => by rw [hG, hw]; exact partAll_piece off _ _ _ hoff b rfl rfl rfl inb wt Oa j)) $$ H; iintro H
  iapply Hk
  iapply (filled_mono c M G (Set.union_subset_union_right A ?_)) $$ H
  intro i hi0
  have hi0 : (i 0).val = b.val := hi0
  refine ⟨(ix3 (0 : Fin 1) (i 1 : Fin 512) (i 2 : Fin 512) : S1x512x512.Idx), ?_⟩
  subst hoff
  exact idx3_ext (by show b.val + 1 * 0 = (i 0).val; omega) (by show 0 + 1 * (i 1).val = _; omega) (by show 0 + 1 * (i 2).val = _; omega)

/-- A load of a batch, all of it filled: up to the leading unit axis, the plane. -/
theorem wp_load_plane (b : Fin 2) (hoff : off = ![b.val, 0, 0]) (hA : ∀ i ∈ planeAt b, i ∈ A) {inb : ∀ a, off a + S1x512x512.size a ≤ S2x512x512.size a}
    {hl : M.view.LoadsAt (Rect.unit (s := S2x512x512) off S1x512x512.size inb).toLoadRect}
    {k : (S1x512x512.Idx → Elt F e) → Prog (TpuEff nD τ sig (Elt F) Λ₀ .tc) α} :
    filled c M A G
      ⊢ iprop((∀ v : S1x512x512.Idx → Elt F e, ⌜shapeCast S512x512 v shapeCasts_S1x512x512_S512x512 = plane G b⌝ -∗ filled c M A G
          -∗ wp frame (wpE (defs₀ (F := F)) 𝒱₀ (c : Thread nD τ) none) Set.univ (k v) Q)
        -∗ wp frame (wpE (defs₀ (F := F)) 𝒱₀ (c : Thread nD τ) none) Set.univ (.op (.load M (Rect.unit (s := S2x512x512) off S1x512x512.size inb).toLoadRect hl) k) Q) := by
  iintro H Hk
  iapply (wp_load_filled c (M := M) (A := A) (G := G) (fun j => hA _ (by
    subst hoff
    have j0 : (j 0).val < 1 := (j 0).isLt
    show b.val + 1 * (j 0).val = b.val; omega))) $$ H; iintro H
  iapply Hk
  · ipureintro; exact plane_piece off _ _ _ hoff b rfl rfl rfl inb G
  iexact H

/-- A load of the rows of one sequence block, the whole buffer filled. -/
theorem wp_load_rows {G : S2x512x512.Idx → Elt F .f32} {M : Memref sig .tc .vmem S2x512x512 .f32}
    (d : Dev nD) (hoff : off = ![0, 128 * d.val, 0]) {inb : ∀ a, off a + S2x128x512.size a ≤ S2x512x512.size a}
    {hl : M.view.LoadsAt (Rect.unit (s := S2x512x512) off S2x128x512.size inb).toLoadRect}
    {k : (S2x128x512.Idx → Elt F .f32) → Prog (TpuEff nD τ sig (Elt F) Λ₀ .tc) α} :
    filled c M Set.univ G
      ⊢ iprop((filled c M Set.univ G -∗ wp frame (wpE (defs₀ (F := F)) 𝒱₀ (c : Thread nD τ) none) Set.univ (k (rowsOf G d)) Q)
        -∗ wp frame (wpE (defs₀ (F := F)) 𝒱₀ (c : Thread nD τ) none) Set.univ (.op (.load M (Rect.unit (s := S2x512x512) off S2x128x512.size inb).toLoadRect hl) k) Q) := by
  have h := wp_load_filled c (M := M) (A := Set.univ) (G := G) (Q := Q) (r := Rect.unit (s := S2x512x512) off S2x128x512.size inb) (hl := hl) (fun j => trivial) (k := k)
  rwa [show (fun j => G ((Rect.unit (s := S2x512x512) off S2x128x512.size inb).emb j)) = rowsOf G d from rows_piece off _ _ _ hoff d rfl rfl rfl inb G] at h

end Pieces

end Cert.KernelIdealAttn
-- ==== Proof.KernelIdeal.Enter.lean ====
/-
  The kernel's body, first part: the barrier, and the gather's transfers.
-/
module

public import proofs.«01_k».proof.Proof.KernelIdeal.Model

@[expose] public section

set_option maxRecDepth 16384

noncomputable section

namespace Cert.KernelIdealAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-- A part of the body at the launch's buffers and semaphores. -/
abbrev atBufs {β : Type 1} (p : (a0 : Memref sig .tc .vmem S2x128x512 .bf16) → a0.IsWhole → (a1 : Memref sig .tc .vmem S512x512 .bf16) → a1.IsWhole → (a2 : Memref sig .tc .vmem S512x512 .bf16) → a2.IsWhole → (a3 : Memref sig .tc .vmem S512x512 .bf16) → a3.IsWhole → (a4 : Memref sig .tc .vmem S512x512 .bf16) → a4.IsWhole → (a5 : Memref sig .tc .vmem S2x128x512 .f32) → a5.IsWhole → (a6 : Memref sig .tc .vmem S2x128x512 .bf16) → a6.IsWhole → (a7 : Memref sig .tc .vmem S3x2x128x512 .bf16) → a7.IsWhole → (a8 : Memref sig .tc .vmem S2x512x512 .bf16) → a8.IsWhole → (a9 : Memref sig .tc .vmem S2x512x512 .bf16) → a9.IsWhole → (a10 : Memref sig .tc .vmem S2x512x512 .bf16) → a10.IsWhole → (a11 : Memref sig .tc .vmem S2x512x512 .bf16) → a11.IsWhole → (a12 : Memref sig .tc .vmem S2x512x512 .f32) → a12.IsWhole → (a13 : Memref sig .tc .vmem S3x2x128x512 .bf16) → a13.IsWhole → (a14 : Memref sig .tc .vmem S3x2x128x512 .bf16) → a14.IsWhole → DmaSems sig S3 → DmaSems sig S3 → DmaSems sig S3 → DmaSems sig S3 → β) : β :=
  p (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev wkM : Memref sig .tc .vmem S512x512 .bf16 := Memref.whole cc0_stg3_0
abbrev wvM : Memref sig .tc .vmem S512x512 .bf16 := Memref.whole cc0_stg4_0
abbrev outM : Memref sig .tc .vmem S2x128x512 .f32 := Memref.whole cc0_stg5_0
abbrev qM : Memref sig .tc .vmem S2x512x512 .bf16 := Memref.whole cc0_scratch2
abbrev kM : Memref sig .tc .vmem S2x512x512 .bf16 := Memref.whole cc0_scratch3
abbrev vM : Memref sig .tc .vmem S2x512x512 .bf16 := Memref.whole cc0_scratch4
abbrev oM : Memref sig .tc .vmem S2x512x512 .bf16 := Memref.whole cc0_scratch5
abbrev yM : Memref sig .tc .vmem S2x512x512 .f32 := Memref.whole cc0_scratch6

theorem pay1_eq (x : FVec F S2x128x512 .bf16) : k0_pay1 x = x := by unfold k0_pay1; dsimp only; rw [shapeCast_self, shapeCast_self]
theorem pay2_eq (x : FVec F S512x512 .bf16) : k0_pay2 x = x := by unfold k0_pay2; exact shapeCast_self x _
theorem pay3_eq (x : FVec F S512x512 .bf16) : k0_pay3 x = x := by unfold k0_pay3; exact shapeCast_self x _
theorem pay4_eq (x : FVec F S512x512 .bf16) : k0_pay4 x = x := by unfold k0_pay4; exact shapeCast_self x _
theorem pay5_eq (x : FVec F S512x512 .bf16) : k0_pay5 x = x := by unfold k0_pay5; exact shapeCast_self x _

theorem dev1 (c : Dev nD) : (⟨k0_dev1 c, k0_dev1_lt c⟩ : Dev nD) = src c 0 := Fin.ext (k0_dev1_eq c)
theorem dev2 (c : Dev nD) : (⟨k0_dev2 c, k0_dev2_lt c⟩ : Dev nD) = src c 1 := Fin.ext (k0_dev2_eq c)
theorem dev3 (c : Dev nD) : (⟨k0_dev3 c, k0_dev3_lt c⟩ : Dev nD) = src c 2 := Fin.ext (k0_dev3_eq c)
theorem dev4 (c : Dev nD) : (⟨k0_dev4 c, k0_dev4_lt c⟩ : Dev nD) = dst c 2 := Fin.ext (k0_dev4_eq c)
theorem dev5 (c : Dev nD) : (⟨k0_dev5 c, k0_dev5_lt c⟩ : Dev nD) = dst c 1 := Fin.ext (k0_dev5_eq c)
theorem dev6 (c : Dev nD) : (⟨k0_dev6 c, k0_dev6_lt c⟩ : Dev nD) = dst c 0 := Fin.ext (k0_dev6_eq c)
theorem dev7 (c : Dev nD) : (⟨k0_dev7 c, k0_dev7_lt c⟩ : Dev nD) = dst c 2 := Fin.ext (k0_dev7_eq c)
theorem dev8 (c : Dev nD) : (⟨k0_dev8 c, k0_dev8_lt c⟩ : Dev nD) = dst c 1 := Fin.ext (k0_dev8_eq c)
theorem dev9 (c : Dev nD) : (⟨k0_dev9 c, k0_dev9_lt c⟩ : Dev nD) = dst c 0 := Fin.ext (k0_dev9_eq c)

variable (ins : Ins F) (K : Dev nD × CI → ℕ) (c : Dev nD)

/-- What the entry needs: the obligations, the right to signal each peer, the landing slots handed out with the signals,
the three peers' credit, and the wait's position. -/
def entryPre : sProp 𝕄 :=
  iprop(owing c (O₀ c)
    ∗ (dutyTok ER (barCell (src c 0)) 0 0 ∗ dutyTok ER (barCell (src c 1)) 0 1 ∗ dutyTok ER (barCell (src c 2)) 0 2)
    ∗ ((room false 0 c ∗ room true 0 c) ∗ (room false 1 c ∗ room true 1 c) ∗ (room false 2 c ∗ room true 2 c))
    ∗ cred (tallyAt (barCell c) () 3) ∗ atPos ER (barCell c) 0 ∅ 0)

/-- The first part meets the peers, and copies the activations. -/
theorem wp_part1 {Kt : (Σ' (d0 : Dev nD) (v2 : BitVec 32) (v22 : BitVec 32), BitVec 32) → sProp 𝕄} (Z : S2x128x512.Idx → Elt F .bf16) :
    iprop(records ins.load K ∗ entryPre c ∗ owns (c : Thread nD τ) xM fullShare (ins.x c) ∗ owns (c : Thread nD τ) xbM fullShare Z)
      ⊢ iprop((∀ v2 v22, iprop(owing c (Ogath c) ∗ rooms 0 c ∗ rooms 1 c ∗ rooms 2 c ∗ semVal (barCell c) 0
            ∗ owns (c : Thread nD τ) xM fullShare (ins.x c) ∗ owns (c : Thread nD τ) xbM fullShare (ins.x c)) -∗ Kt ⟨c, v2, v22, 1#32⟩)
        -∗ wp frame (wpE (defs₀ (F := F)) 𝒱₀ (c : Thread nD τ) none) Set.univ (atBufs (k0_part1 (F := F))) Kt) := by
  iintro ⟨#HR, Hpre, Hx, Hxb⟩ Hk
  unfold entryPre
  icases Hpre with ⟨HO, ⟨Ht0, Ht1, Ht2⟩, ⟨⟨Ha0, Hb0⟩, ⟨Ha1, Hb1⟩, Ha2, Hb2⟩, Hc, Hat⟩
  unfold atBufs
  simp only [k0_part1_eq_skeleton]
  unfold k0_part1_skel
  simp only [semSignalWord, semWaitWord, Prog.lift, Prog.bind_op, Prog.bind_ret, Prog.pure_eq_ret, Prog.bind_assoc, wp_deviceId]
  unfold O₀
  iapply (wp_signal_peer ins.load K c 0 _ (dev1 c) (Ogath c + owedB 2 c + owedB 1 c) _ rfl) $$ [HO Ht0 Ha0 Hb0]
  · isplitr; · iexact HR
    isplitl [HO]; · iexact HO
    isplitl [Ht0]; · iexact Ht0
    isplitl [Ha0] <;> iassumption
  iintro HO
  iapply (wp_signal_peer ins.load K c 1 _ (dev2 c) (Ogath c + owedB 2 c) _ rfl) $$ [HO Ht1 Ha1 Hb1]
  · isplitr; · iexact HR
    isplitl [HO]; · iexact HO
    isplitl [Ht1]; · iexact Ht1
    isplitl [Ha1] <;> iassumption
  iintro HO
  iapply (wp_signal_peer ins.load K c 2 _ (dev3 c) (Ogath c) _ rfl) $$ [HO Ht2 Ha2 Hb2]
  · isplitr; · iexact HR
    isplitl [HO]; · iexact HO
    isplitl [Ht2]; · iexact Ht2
    isplitl [Ha2] <;> iassumption
  iintro HO
  iapply (wp_wait_bar ins.load K c _ rfl) $$ [HO Hc Hat]
  · isplitr; · iexact HR
    isplitl [HO]; · iexact HO
    isplitl [Hc] <;> iassumption
  iintro ⟨HO, H0, H1, H2, Hz⟩
  iapply (wp_load_whole c fullShare) $$ Hx; iintro Hx
  iapply (wp_load_whole c fullShare) $$ Hxb; iintro Hxb
  iapply (wp_store_whole c) $$ Hxb; iintro Hxb
  rw [wp_ret]; imodintro
  rw [pay1_eq]
  iapply Hk
  isplitl [HO]; · iexact HO
  isplitl [H0]; · iexact H0
  isplitl [H1]; · iexact H1
  isplitl [H2]; · iexact H2
  isplitl [Hz]; · iexact Hz
  isplitl [Hx] <;> iassumption

/-- What a transfer to slot `r`'s receiver needs besides its source and what is owed. -/
def sendPre (b : Bool) (r : Fin 3) : sProp 𝕄 :=
  iprop(room b r (dst c r) ∗ dutyTok ER (sndCell b r c) 0 0 ∗ dutyTok ER (rcvCell b r (dst c r)) 0 0)

/-- The second part sends the activations to the three peers. -/
theorem wp_part2 {Kt : FVec F S512x512 .bf16 → sProp 𝕄} (v2 v22 v1 : BitVec 32) :
    iprop(records ins.load K ∗ owing c (Ogath c) ∗ (lent ins.load false 0 c ∗ lent ins.load false 1 c ∗ lent ins.load false 2 c)
        ∗ (sendPre c false 0 ∗ sendPre c false 1 ∗ sendPre c false 2) ∗ owns (c : Thread nD τ) wqM fullShare (ins.wq c))
      ⊢ iprop((iprop(owing c (Oscat c)
            ∗ (cred (tallyAt (sndCell false 0 c) () N) ∗ cred (tallyAt (sndCell false 1 c) () N) ∗ cred (tallyAt (sndCell false 2 c) () N))
            ∗ owns (c : Thread nD τ) wqM fullShare (ins.wq c)) -∗ Kt (ins.wq c))
        -∗ wp frame (wpE (defs₀ (F := F)) 𝒱₀ (c : Thread nD τ) none) Set.univ (atBufs (k0_part2 (F := F)) c v2 v22 v1) Kt) := by
  iintro ⟨#HR, HO, ⟨Hl0, Hl1, Hl2⟩, ⟨Hs0, Hs1, Hs2⟩, Hw⟩ Hk
  unfold sendPre
  icases Hs0 with ⟨Hr0, Hx0, Hy0⟩
  icases Hs1 with ⟨Hr1, Hx1, Hy1⟩
  icases Hs2 with ⟨Hr2, Hx2, Hy2⟩
  unfold atBufs
  simp only [k0_part2_eq_skeleton]
  unfold k0_part2_skel
  simp only [Prog.lift, Prog.bind_op, Prog.bind_ret, Prog.pure_eq_ret, Prog.bind_assoc]
  unfold Ogath
  iapply (wp_send_peer ins.load K c false 2 _ (dev4 c) rfl rfl rfl rfl (Oscat c + owedX false 0 c + owedX false 1 c)) $$ [HO Hl2 Hr2 Hx2 Hy2]
  · isplitr; · iexact HR
    isplitl [Hl2]; · iexact Hl2
    isplitl [Hr2]; · iexact Hr2
    isplitl [HO]; · iexact HO
    isplitl [Hx2] <;> iassumption
  iintro ⟨HO, Hc2⟩
  iapply (wp_send_peer ins.load K c false 1 _ (dev5 c) rfl rfl rfl rfl (Oscat c + owedX false 0 c)) $$ [HO Hl1 Hr1 Hx1 Hy1]
  · isplitr; · iexact HR
    isplitl [Hl1]; · iexact Hl1
    isplitl [Hr1]; · iexact Hr1
    isplitl [HO]; · iexact HO
    isplitl [Hx1] <;> iassumption
  iintro ⟨HO, Hc1⟩
  iapply (wp_send_peer ins.load K c false 0 _ (dev6 c) rfl rfl rfl rfl (Oscat c)) $$ [HO Hl0 Hr0 Hx0 Hy0]
  · isplitr; · iexact HR
    isplitl [Hl0]; · iexact Hl0
    isplitl [Hr0]; · iexact Hr0
    isplitl [HO]; · iexact HO
    isplitl [Hx0] <;> iassumption
  iintro ⟨HO, Hc0⟩
  iapply (wp_load_whole c fullShare) $$ Hw; iintro Hw
  rw [wp_ret]; imodintro
  rw [pay2_eq]
  iapply Hk
  isplitl [HO]; · iexact HO
  isplitl [Hc0 Hc1 Hc2]
  · isplitl [Hc0]; · iexact Hc0
    isplitl [Hc1] <;> iassumption
  iexact Hw

end Cert.KernelIdealAttn
-- ==== Proof.KernelIdeal.Project.lean ====
/-
  The kernel's body, second part: the projections of the device's own rows, and of each peer's as its block arrives.
-/
module

public import proofs.«01_k».proof.Proof.KernelIdeal.Enter

@[expose] public section

set_option maxRecDepth 16384

noncomputable section

namespace Cert.KernelIdealAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (ins : Ins F) (K : Dev nD × CI → ℕ) (c : Dev nD)

/-- The three projections, filled on `A`. -/
def projs (A : Set S2x512x512.Idx) : sProp 𝕄 :=
  iprop(filled c qM A (ins.Q c) ∗ filled c kM A (ins.K c) ∗ filled c vM A (ins.V c))

/-- What the wait on a landing end needs besides what is owed. -/
def recvPre (b : Bool) (r : Fin 3) : sProp 𝕄 := iprop(cred (tallyAt (rcvCell b r c) () N) ∗ atPos ER (rcvCell b r c) 0 ∅ 0)

theorem off1_eq : k0_off1 c = ![(0 : Fin 2).val, 128 * c.val, 0] := k0_off1_eq c
theorem off2_eq : k0_off2 c = ![(1 : Fin 2).val, 128 * c.val, 0] := k0_off2_eq c
theorem off3_eq (r : Fin 3) : k0_off3 c (BitVec.ofNat 32 r.val) = ![(0 : Fin 2).val, 128 * (src c r).val, 0] := k0_off3_eq c r
theorem off4_eq (r : Fin 3) : k0_off4 c (BitVec.ofNat 32 r.val) = ![(1 : Fin 2).val, 128 * (src c r).val, 0] := k0_off4_eq c r

/-- What a wait on a landing end of the gather leaves: the obligations, the slot with the peer's activations, the counter at zero. -/
def gathered (r : Fin 3) : sProp 𝕄 :=
  iprop(owing c (Oscat c) ∗ owns (c : Thread nD τ) (slotM xgM r) fullShare (ins.x (src c r)) ∗ semVal (rcvCell false r c) 0)

/-- The wait for the activations of slot `r`. -/
theorem wp_wait_gather {α : Type} {Q : α → sProp 𝕄} {k : PUnit → Prog (TpuEff nD τ sig (Elt F) Λ₀ .tc) α} (r : Fin 3) {sR : DmaSem sig} (hsR : sR = rcvS false r := by rfl)
    {hsrc : (xbM : Memref sig .tc .vmem S2x128x512 .bf16).view.WordExact} {hdst : (slotM xgM r).view.WordExact} :
    iprop(records ins.load K ∗ owing c (Oscat c) ∗ recvPre c false r)
      ⊢ iprop((iprop(owing c (Oscat c) ∗ owns (c : Thread nD τ) (slotM xgM r) fullShare (ins.x (src c r)) ∗ semVal (rcvCell false r c) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR xbM (slotM xgM r) hsrc hdst) k) Q) := by
  iintro ⟨#HR, HO, Hrc⟩ Hk
  unfold recvPre; icases Hrc with ⟨Hc, Hat⟩
  iapply (wp_wait_rcv ins.load K c false r hsR (sm := xbM) (dm := slotM xgM r) (dstM_amount false r (rcvS false r)) 2 (by rw [role_rcv]; exact le_refl _) (above_Oscat c (by omega))) $$ [HO Hc Hat]
  · isplitr; · iexact HR
    isplitl [HO]; · iexact HO
    isplitl [Hc] <;> iassumption
  iintro ⟨HO, Hl, Hz⟩
  iapply Hk
  isplitl [HO]; · iexact HO
  isplitl [Hl]
  · unfold landed; iexact Hl
  iexact Hz

/-- The third part loads the weights and the activations, and projects the device's own rows of batch 0. -/
theorem wp_part3 {Kt : (Σ' (v54 : FVec F S512x512 .bf16) (v56 : FVec F S512x512 .bf16) (v58 : FVec F S512x512 .bf16) (v60 : BitVec 32) (v82 : FVec F S128x512 .bf16), FVec F S1x128x512 .bf16) → sProp 𝕄}
    (v2 : BitVec 32) (q : PosShare TreeShare) (A : Set S2x512x512.Idx) :
    iprop(owns (c : Thread nD τ) wkM fullShare (ins.wk c) ∗ owns (c : Thread nD τ) wvM fullShare (ins.wv c) ∗ owns (c : Thread nD τ) woM fullShare (ins.wo c)
        ∗ owns (c : Thread nD τ) xbM q (ins.x c) ∗ projs ins c A)
      ⊢ iprop((∀ v60, iprop(owns (c : Thread nD τ) wkM fullShare (ins.wk c) ∗ owns (c : Thread nD τ) wvM fullShare (ins.wv c) ∗ owns (c : Thread nD τ) woM fullShare (ins.wo c)
            ∗ owns (c : Thread nD τ) xbM q (ins.x c) ∗ projs ins c (A ∪ rowsAt 0 c))
          -∗ Kt ⟨ins.wk c, ins.wv c, ins.wo c, v60, xrows 1 (ins.x c), projRows (ins.wq c) (xrows 1 (ins.x c))⟩)
        -∗ wp frame (wpE (defs₀ (F := F)) 𝒱₀ (c : Thread nD τ) none) Set.univ (atBufs (k0_part3 (F := F)) c v2 (ins.wq c)) Kt) := by
  iintro ⟨Hwk, Hwv, Hwo, Hxb, Hp⟩ Hk
  unfold projs
  icases Hp with ⟨HQ, HK, HV⟩
  unfold atBufs
  simp only [k0_part3_eq_skeleton]
  unfold k0_part3_skel
  simp only [Prog.lift, Prog.bind_op, Prog.bind_ret, Prog.pure_eq_ret, Prog.bind_assoc]
  iapply (wp_load_whole c fullShare) $$ Hwk; iintro Hwk
  iapply (wp_load_whole c fullShare) $$ Hwv; iintro Hwv
  iapply (wp_load_whole c fullShare) $$ Hwo; iintro Hwo
  iapply (wp_load_whole c q) $$ Hxb; iintro Hxb
  iapply (wp_load_any c) $$ HQ; iintro %_ HQ
  iapply (wp_store_rows c (G := ins.Q c) (w := k0_pay7 (ins.wq c) (ins.x c)) 0 c (off1_eq c) (ins.wq c) ins.x rfl rfl) $$ HQ; iintro HQ
  iapply (wp_load_any c) $$ HK; iintro %_ HK
  iapply (wp_store_rows c (G := ins.K c) (w := k0_pay8 (ins.wk c) (ins.x c)) 0 c (off1_eq c) (ins.wk c) ins.x rfl ((congrArg (fun w => projRows w (xrows 0 (ins.x c))) (pay3_eq (ins.wk c))))) $$ HK; iintro HK
  iapply (wp_load_any c) $$ HV; iintro %_ HV
  iapply (wp_store_rows c (G := ins.V c) (w := k0_pay9 (ins.wv c) (ins.x c)) 0 c (off1_eq c) (ins.wv c) ins.x rfl ((congrArg (fun w => projRows w (xrows 0 (ins.x c))) (pay4_eq (ins.wv c))))) $$ HV; iintro HV
  iapply (wp_load_any c) $$ HQ; iintro %_ HQ
  rw [wp_ret]; imodintro
  rw [pay3_eq, pay4_eq, pay5_eq, show k0_pay10 (ins.x c) = xrows 1 (ins.x c) from rfl,
    show k0_pay11 (ins.wq c) (ins.x c) = projRows (ins.wq c) (xrows 1 (ins.x c)) from rfl]
  iapply Hk
  isplitl [Hwk]; · iexact Hwk
  isplitl [Hwv]; · iexact Hwv
  isplitl [Hwo]; · iexact Hwo
  isplitl [Hxb]; · iexact Hxb
  isplitl [HQ]; · iexact HQ
  isplitl [HK] <;> iassumption

/-- The fourth part projects the device's own rows of batch 1, then waits for the first peer's activations. -/
theorem wp_part4 {Kt : (Σ' (v111 : FVec F S2x128x512 .bf16) (v112 : BitVec 32) (v114 : FVec F S128x512 .bf16), FVec F S128x512 .bf16) → sProp 𝕄}
    (v2 v60 : BitVec 32) (A : Set S2x512x512.Idx) :
    iprop(records ins.load K ∗ projs ins c A ∗ owing c (Oscat c) ∗ recvPre c false 2)
      ⊢ iprop((∀ v112, iprop(projs ins c (A ∪ rowsAt 1 c) ∗ gathered ins c 2)
          -∗ Kt ⟨ins.x (src c 2), v112, xrows 0 (ins.x (src c 2)), projFlat (ins.wq c) (xrows 0 (ins.x (src c 2)))⟩)
        -∗ wp frame (wpE (defs₀ (F := F)) 𝒱₀ (c : Thread nD τ) none) Set.univ (atBufs (k0_part4 (F := F)) c v2 (ins.wq c) (ins.wk c) (ins.wv c) v60 (xrows 1 (ins.x c)) (projRows (ins.wq c) (xrows 1 (ins.x c)))) Kt) := by
  iintro ⟨#HR, Hp, HO, Hrc⟩ Hk
  unfold projs
  icases Hp with ⟨HQ, HK, HV⟩
  unfold atBufs
  simp only [k0_part4_eq_skeleton]
  unfold k0_part4_skel
  simp only [Prog.lift, Prog.bind_op, Prog.bind_ret, Prog.pure_eq_ret, Prog.bind_assoc]
  iapply (wp_store_rows c (G := ins.Q c) (w := projRows (ins.wq c) (xrows 1 (ins.x c))) 1 c (off2_eq c) (ins.wq c) ins.x rfl rfl) $$ HQ; iintro HQ
  iapply (wp_load_any c) $$ HK; iintro %_ HK
  iapply (wp_store_rows c (G := ins.K c) (w := k0_pay12 (ins.wk c) (xrows 1 (ins.x c))) 1 c (off2_eq c) (ins.wk c) ins.x rfl rfl) $$ HK; iintro HK
  iapply (wp_load_any c) $$ HV; iintro %_ HV
  iapply (wp_store_rows c (G := ins.V c) (w := k0_pay13 (ins.wv c) (xrows 1 (ins.x c))) 1 c (off2_eq c) (ins.wv c) ins.x rfl rfl) $$ HV; iintro HV
  iapply (wp_wait_gather ins K c 2 (sR := rcvS false 2)) $$ [HO Hrc]
  · isplitr; · iexact HR
    isplitl [HO] <;> iassumption
  iintro ⟨HO, Hl, Hz⟩
  iapply (wp_load_slot c (M := xgM) 2) $$ Hl; iintro %v %hv Hl
  iapply (wp_load_any c) $$ HQ; iintro %_ HQ
  rw [wp_ret]; imodintro
  rw [show k0_pay14 v = ins.x (src c 2) from hv, show k0_pay15 v = xrows 0 (ins.x (src c 2)) from congrArg (fun z => xrows 0 z) hv,
    show k0_pay16 (ins.wq c) v = projFlat (ins.wq c) (xrows 0 (ins.x (src c 2))) from congrArg (fun z => projFlat (ins.wq c) (xrows 0 z)) hv]
  iapply Hk
  isplitl [HQ HK HV]
  · isplitl [HQ]; · iexact HQ
    isplitl [HK] <;> iassumption
  unfold gathered
  isplitl [HO]; · iexact HO
  isplitl [Hl] <;> iassumption

/-- The fifth part projects the first peer's rows. -/
theorem wp_part5 {Kt : (Σ' (v153 : BitVec 32), BitVec 32) → sProp 𝕄} (v2 v112 : BitVec 32) (A : Set S2x512x512.Idx) :
    projs ins c A
      ⊢ iprop((∀ v153 v0, projs ins c ((A ∪ rowsAt 0 (src c 2)) ∪ rowsAt 1 (src c 2)) -∗ Kt ⟨v153, v0⟩)
        -∗ wp frame (wpE (defs₀ (F := F)) 𝒱₀ (c : Thread nD τ) none) Set.univ (atBufs (k0_part5 (F := F)) c v2 (ins.wq c) (ins.wk c) (ins.wv c) (ins.x (src c 2)) v112 (xrows 0 (ins.x (src c 2))) (projFlat (ins.wq c) (xrows 0 (ins.x (src c 2))))) Kt) := by
  iintro Hp Hk
  unfold projs
  icases Hp with ⟨HQ, HK, HV⟩
  unfold atBufs
  simp only [k0_part5_eq_skeleton]
  unfold k0_part5_skel
  simp only [Prog.lift, Prog.bind_op, Prog.bind_ret, Prog.pure_eq_ret, Prog.bind_assoc]
  iapply (wp_store_rows c (G := ins.Q c) (w := k0_pay17 (projFlat (ins.wq c) (xrows 0 (ins.x (src c 2))))) 0 (src c 2) (off3_eq c 2) (ins.wq c) ins.x rfl rfl) $$ HQ; iintro HQ
  iapply (wp_load_any c) $$ HK; iintro %_ HK
  iapply (wp_store_rows c (G := ins.K c) (w := k0_pay18 (ins.wk c) (xrows 0 (ins.x (src c 2)))) 0 (src c 2) (off3_eq c 2) (ins.wk c) ins.x rfl rfl) $$ HK; iintro HK
  iapply (wp_load_any c) $$ HV; iintro %_ HV
  iapply (wp_store_rows c (G := ins.V c) (w := k0_pay19 (ins.wv c) (xrows 0 (ins.x (src c 2)))) 0 (src c 2) (off3_eq c 2) (ins.wv c) ins.x rfl rfl) $$ HV; iintro HV
  iapply (wp_load_any c) $$ HQ; iintro %_ HQ
  iapply (wp_store_rows c (G := ins.Q c) (w := k0_pay21 (ins.wq c) (ins.x (src c 2))) 1 (src c 2) (off4_eq c 2) (ins.wq c) ins.x rfl rfl) $$ HQ; iintro HQ
  iapply (wp_load_any c) $$ HK; iintro %_ HK
  iapply (wp_store_rows c (G := ins.K c) (w := k0_pay22 (ins.wk c) (ins.x (src c 2))) 1 (src c 2) (off4_eq c 2) (ins.wk c) ins.x rfl rfl) $$ HK; iintro HK
  iapply (wp_load_any c) $$ HV; iintro %_ HV
  iapply (wp_store_rows c (G := ins.V c) (w := k0_pay23 (ins.wv c) (ins.x (src c 2))) 1 (src c 2) (off4_eq c 2) (ins.wv c) ins.x rfl rfl) $$ HV; iintro HV
  rw [wp_ret]; imodintro
  iapply Hk
  isplitl [HQ]; · iexact HQ
  isplitl [HK] <;> iassumption

/-- The sixth part waits for the second peer's activations and projects their batch 0. -/
theorem wp_part6 {Kt : (Σ' (v164 : BitVec 32) (v186 : FVec F S128x512 .bf16), FVec F S128x512 .bf16) → sProp 𝕄} (v2 v153 v0 : BitVec 32) (A : Set S2x512x512.Idx) :
    iprop(records ins.load K ∗ projs ins c A ∗ owing c (Oscat c) ∗ recvPre c false 0)
      ⊢ iprop((∀ v164, iprop(projs ins c (A ∪ rowsAt 0 (src c 0)) ∗ gathered ins c 0)
          -∗ Kt ⟨v164, xrows 1 (ins.x (src c 0)), projFlat (ins.wq c) (xrows 1 (ins.x (src c 0)))⟩)
        -∗ wp frame (wpE (defs₀ (F := F)) 𝒱₀ (c : Thread nD τ) none) Set.univ (atBufs (k0_part6 (F := F)) c v2 (ins.wq c) (ins.wk c) (ins.wv c) v153 v0) Kt) := by
  iintro ⟨#HR, Hp, HO, Hrc⟩ Hk
  unfold projs
  icases Hp with ⟨HQ, HK, HV⟩
  unfold atBufs
  simp only [k0_part6_eq_skeleton]
  unfold k0_part6_skel
  simp only [Prog.lift, Prog.bind_op, Prog.bind_ret, Prog.pure_eq_ret, Prog.bind_assoc]
  iapply (wp_wait_gather ins K c 0 (sR := rcvS false 0)) $$ [HO Hrc]
  · isplitr; · iexact HR
    isplitl [HO] <;> iassumption
  iintro ⟨HO, Hl, Hz⟩
  iapply (wp_load_slot c (M := xgM) 0) $$ Hl; iintro %v %hv Hl
  iapply (wp_load_any c) $$ HQ; iintro %_ HQ
  iapply (wp_store_rows c (G := ins.Q c) (w := k0_pay26 (ins.wq c) v) 0 (src c 0) (off3_eq c 0) (ins.wq c) ins.x rfl (congrArg (fun z => projRows (ins.wq c) (xrows 0 z)) hv)) $$ HQ; iintro HQ
  iapply (wp_load_any c) $$ HK; iintro %_ HK
  iapply (wp_store_rows c (G := ins.K c) (w := k0_pay27 (ins.wk c) v) 0 (src c 0) (off3_eq c 0) (ins.wk c) ins.x rfl (congrArg (fun z => projRows (ins.wk c) (xrows 0 z)) hv)) $$ HK; iintro HK
  iapply (wp_load_any c) $$ HV; iintro %_ HV
  iapply (wp_store_rows c (G := ins.V c) (w := k0_pay28 (ins.wv c) v) 0 (src c 0) (off3_eq c 0) (ins.wv c) ins.x rfl (congrArg (fun z => projRows (ins.wv c) (xrows 0 z)) hv)) $$ HV; iintro HV
  rw [wp_ret]; imodintro
  rw [show k0_pay29 v = xrows 1 (ins.x (src c 0)) from congrArg (fun z => xrows 1 z) hv,
    show k0_pay30 (ins.wq c) v = projFlat (ins.wq c) (xrows 1 (ins.x (src c 0))) from congrArg (fun z => projFlat (ins.wq c) (xrows 1 z)) hv]
  iapply Hk
  isplitl [HQ HK HV]
  · isplitl [HQ]; · iexact HQ
    isplitl [HK] <;> iassumption
  unfold gathered
  isplitl [HO]; · iexact HO
  isplitl [Hl] <;> iassumption

/-- The seventh part projects their batch 1, then waits for the third peer's activations. -/
theorem wp_part7 {Kt : (Σ' (v215 : FVec F S2x128x512 .bf16) (v216 : BitVec 32) (v218 : FVec F S128x512 .bf16), FVec F S128x512 .f32) → sProp 𝕄} (v2 v164 : BitVec 32) (A : Set S2x512x512.Idx) :
    iprop(records ins.load K ∗ projs ins c A ∗ owing c (Oscat c) ∗ recvPre c false 1)
      ⊢ iprop((∀ v216, iprop(projs ins c (A ∪ rowsAt 1 (src c 0)) ∗ gathered ins c 1)
          -∗ Kt ⟨ins.x (src c 1), v216, xrows 0 (ins.x (src c 1)), projRaw (ins.wq c) (xrows 0 (ins.x (src c 1)))⟩)
        -∗ wp frame (wpE (defs₀ (F := F)) 𝒱₀ (c : Thread nD τ) none) Set.univ (atBufs (k0_part7 (F := F)) c v2 (ins.wq c) (ins.wk c) (ins.wv c) v164 (xrows 1 (ins.x (src c 0))) (projFlat (ins.wq c) (xrows 1 (ins.x (src c 0))))) Kt) := by
  iintro ⟨#HR, Hp, HO, Hrc⟩ Hk
  unfold projs
  icases Hp with ⟨HQ, HK, HV⟩
  unfold atBufs
  simp only [k0_part7_eq_skeleton]
  unfold k0_part7_skel
  simp only [Prog.lift, Prog.bind_op, Prog.bind_ret, Prog.pure_eq_ret, Prog.bind_assoc]
  iapply (wp_load_any c) $$ HQ; iintro %_ HQ
  iapply (wp_store_rows c (G := ins.Q c) (w := k0_pay31 (projFlat (ins.wq c) (xrows 1 (ins.x (src c 0))))) 1 (src c 0) (off4_eq c 0) (ins.wq c) ins.x rfl rfl) $$ HQ; iintro HQ
  iapply (wp_load_any c) $$ HK; iintro %_ HK
  iapply (wp_store_rows c (G := ins.K c) (w := k0_pay32 (ins.wk c) (xrows 1 (ins.x (src c 0)))) 1 (src c 0) (off4_eq c 0) (ins.wk c) ins.x rfl rfl) $$ HK; iintro HK
  iapply (wp_load_any c) $$ HV; iintro %_ HV
  iapply (wp_store_rows c (G := ins.V c) (w := k0_pay33 (ins.wv c) (xrows 1 (ins.x (src c 0)))) 1 (src c 0) (off4_eq c 0) (ins.wv c) ins.x rfl rfl) $$ HV; iintro HV
  iapply (wp_wait_gather ins K c 1 (sR := rcvS false 1)) $$ [HO Hrc]
  · isplitr; · iexact HR
    isplitl [HO] <;> iassumption
  iintro ⟨HO, Hl, Hz⟩
  iapply (wp_load_slot c (M := xgM) 1) $$ Hl; iintro %v %hv Hl
  rw [wp_ret]; imodintro
  rw [show k0_pay34 v = ins.x (src c 1) from hv, show k0_pay35 v = xrows 0 (ins.x (src c 1)) from congrArg (fun z => xrows 0 z) hv,
    show k0_pay36 (ins.wq c) v = projRaw (ins.wq c) (xrows 0 (ins.x (src c 1))) from congrArg (fun z => projRaw (ins.wq c) (xrows 0 z)) hv]
  iapply Hk
  isplitl [HQ HK HV]
  · isplitl [HQ]; · iexact HQ
    isplitl [HK] <;> iassumption
  unfold gathered
  isplitl [HO]; · iexact HO
  isplitl [Hl] <;> iassumption

/-- The eighth part projects the third peer's rows. -/
theorem wp_part8 {Kt : PUnit → sProp 𝕄} (v216 : BitVec 32) (A : Set S2x512x512.Idx) :
    projs ins c A
      ⊢ iprop((projs ins c ((A ∪ rowsAt 0 (src c 1)) ∪ rowsAt 1 (src c 1)) -∗ Kt ⟨⟩)
        -∗ wp frame (wpE (defs₀ (F := F)) 𝒱₀ (c : Thread nD τ) none) Set.univ (atBufs (k0_part8 (F := F)) c (ins.wq c) (ins.wk c) (ins.wv c) (ins.x (src c 1)) v216 (xrows 0 (ins.x (src c 1))) (projRaw (ins.wq c) (xrows 0 (ins.x (src c 1))))) Kt) := by
  iintro Hp Hk
  unfold projs
  icases Hp with ⟨HQ, HK, HV⟩
  unfold atBufs
  simp only [k0_part8_eq_skeleton]
  unfold k0_part8_skel
  simp only [Prog.lift, Prog.bind_op, Prog.bind_ret, Prog.pure_eq_ret, Prog.bind_assoc]
  iapply (wp_load_any c) $$ HQ; iintro %_ HQ
  iapply (wp_store_rows c (G := ins.Q c) (w := k0_pay37 (projRaw (ins.wq c) (xrows 0 (ins.x (src c 1))))) 0 (src c 1) (off3_eq c 1) (ins.wq c) ins.x rfl rfl) $$ HQ; iintro HQ
  iapply (wp_load_any c) $$ HK; iintro %_ HK
  iapply (wp_store_rows c (G := ins.K c) (w := k0_pay38 (ins.wk c) (xrows 0 (ins.x (src c 1)))) 0 (src c 1) (off3_eq c 1) (ins.wk c) ins.x rfl rfl) $$ HK; iintro HK
  iapply (wp_load_any c) $$ HV; iintro %_ HV
  iapply (wp_store_rows c (G := ins.V c) (w := k0_pay39 (ins.wv c) (xrows 0 (ins.x (src c 1)))) 0 (src c 1) (off3_eq c 1) (ins.wv c) ins.x rfl rfl) $$ HV; iintro HV
  iapply (wp_load_any c) $$ HQ; iintro %_ HQ
  iapply (wp_store_rows c (G := ins.Q c) (w := k0_pay41 (ins.wq c) (ins.x (src c 1))) 1 (src c 1) (off4_eq c 1) (ins.wq c) ins.x rfl rfl) $$ HQ; iintro HQ
  iapply (wp_load_any c) $$ HK; iintro %_ HK
  iapply (wp_store_rows c (G := ins.K c) (w := k0_pay42 (ins.wk c) (ins.x (src c 1))) 1 (src c 1) (off4_eq c 1) (ins.wk c) ins.x rfl rfl) $$ HK; iintro HK
  iapply (wp_load_any c) $$ HV; iintro %_ HV
  iapply (wp_store_rows c (G := ins.V c) (w := k0_pay43 (ins.wv c) (ins.x (src c 1))) 1 (src c 1) (off4_eq c 1) (ins.wv c) ins.x rfl rfl) $$ HV; iintro HV
  rw [wp_ret]; imodintro
  iapply Hk
  isplitl [HQ]; · iexact HQ
  isplitl [HK] <;> iassumption

end Cert.KernelIdealAttn
-- ==== Proof.KernelIdeal.Attend.lean ====
/-
  The kernel's body, third part: the attention of the sixteen heads, and the output projection.
-/
module

public import proofs.«01_k».proof.Proof.KernelIdeal.Project

@[expose] public section

set_option maxRecDepth 16384

noncomputable section

namespace Cert.KernelIdealAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (ins : Ins F) (K : Dev nD × CI → ℕ) (c : Dev nD)

/-- The ninth part loads batch 0 of the projections and computes its first head. -/
theorem wp_part9 {Kt : (Σ' (v258 : FVec F S512x512 .bf16) (v260 : FVec F S512x512 .bf16) (v262 : FVec F S512x512 .bf16), FVec F S512x64 .bf16) → sProp 𝕄} (A : Set S2x512x512.Idx) :
    iprop(projs ins c Set.univ ∗ filled c oM A (ins.O c))
      ⊢ iprop((iprop(projs ins c Set.univ ∗ filled c oM (A ∪ headAt 0 0) (ins.O c))
          -∗ Kt ⟨plane (ins.Q c) 0, plane (ins.K c) 0, plane (ins.V c) 0, headFlat (64 * (1 : Fin 8).val) (head_slices 1) (plane (ins.Q c) 0) (plane (ins.K c) 0) (plane (ins.V c) 0)⟩)
        -∗ wp frame (wpE (defs₀ (F := F)) 𝒱₀ (c : Thread nD τ) none) Set.univ (atBufs (k0_part9 (F := F)) ) Kt) := by
  iintro ⟨Hp, HO⟩ Hk
  unfold projs
  icases Hp with ⟨HQ, HK, HV⟩
  unfold atBufs
  simp only [k0_part9_eq_skeleton]
  unfold k0_part9_skel
  simp only [Prog.lift, Prog.bind_op, Prog.bind_ret, Prog.pure_eq_ret, Prog.bind_assoc]
  iapply (wp_load_plane c (A := Set.univ) 0 rfl (fun _ _ => trivial)) $$ HQ; iintro %q %hq HQ
  iapply (wp_load_plane c (A := Set.univ) 0 rfl (fun _ _ => trivial)) $$ HK; iintro %k %hk HK
  iapply (wp_load_plane c (A := Set.univ) 0 rfl (fun _ _ => trivial)) $$ HV; iintro %v %hv HV
  iapply (wp_load_any c) $$ HO; iintro %_ HO
  iapply (wp_store_head c (G := ins.O c) (w := k0_pay47 q k v) 0 0 rfl (ins.Q c) (ins.K c) (ins.V c) rfl (by rw [← hq, ← hk, ← hv]; rfl)) $$ HO; iintro HO
  rw [wp_ret]; imodintro
  rw [show k0_pay44 q = plane (ins.Q c) 0 from hq, show k0_pay45 k = plane (ins.K c) 0 from hk, show k0_pay46 v = plane (ins.V c) 0 from hv,
    show k0_pay48 q k v = headFlat (64 * (1 : Fin 8).val) (head_slices 1) (plane (ins.Q c) 0) (plane (ins.K c) 0) (plane (ins.V c) 0) from by rw [← hq, ← hk, ← hv]; rfl]
  iapply Hk
  isplitl [HQ HK HV]
  · isplitl [HQ]; · iexact HQ
    isplitl [HK] <;> iassumption
  iexact HO

/-- The tenth part computes the next three heads, and what the fifth starts with. -/
theorem wp_part10 {Kt : (Σ' (v333 : FVec F S512x64 .bf16), FVec F S512x512 .f32) → sProp 𝕄} (A : Set S2x512x512.Idx) :
    filled c oM A (ins.O c)
      ⊢ iprop((filled c oM (((A ∪ headAt 0 1) ∪ headAt 0 2) ∪ headAt 0 3) (ins.O c)
          -∗ Kt ⟨headCols (64 * (4 : Fin 8).val) (head_slices 4) (plane (ins.V c) 0), headDots (64 * (4 : Fin 8).val) (head_slices 4) (plane (ins.Q c) 0) (plane (ins.K c) 0)⟩)
        -∗ wp frame (wpE (defs₀ (F := F)) 𝒱₀ (c : Thread nD τ) none) Set.univ (atBufs (k0_part10 (F := F)) (plane (ins.Q c) 0) (plane (ins.K c) 0) (plane (ins.V c) 0) (headFlat (64 * (1 : Fin 8).val) (head_slices 1) (plane (ins.Q c) 0) (plane (ins.K c) 0) (plane (ins.V c) 0))) Kt) := by
  iintro HO Hk
  unfold atBufs
  simp only [k0_part10_eq_skeleton]
  unfold k0_part10_skel
  simp only [Prog.lift, Prog.bind_op, Prog.bind_ret, Prog.pure_eq_ret, Prog.bind_assoc]
  iapply (wp_load_any c) $$ HO; iintro %_ HO
  iapply (wp_store_head c (G := ins.O c) (w := k0_pay49 (headFlat (64 * (1 : Fin 8).val) (head_slices 1) (plane (ins.Q c) 0) (plane (ins.K c) 0) (plane (ins.V c) 0))) 0 1 rfl (ins.Q c) (ins.K c) (ins.V c) rfl rfl) $$ HO; iintro HO
  iapply (wp_load_any c) $$ HO; iintro %_ HO
  iapply (wp_store_head c (G := ins.O c) (w := k0_pay50 (plane (ins.Q c) 0) (plane (ins.K c) 0) (plane (ins.V c) 0)) 0 2 rfl (ins.Q c) (ins.K c) (ins.V c) rfl rfl) $$ HO; iintro HO
  iapply (wp_load_any c) $$ HO; iintro %_ HO
  iapply (wp_store_head c (G := ins.O c) (w := k0_pay51 (plane (ins.Q c) 0) (plane (ins.K c) 0) (plane (ins.V c) 0)) 0 3 rfl (ins.Q c) (ins.K c) (ins.V c) rfl rfl) $$ HO; iintro HO
  rw [wp_ret]; imodintro
  rw [show k0_pay52 (plane (ins.V c) 0) = headCols (64 * (4 : Fin 8).val) (head_slices 4) (plane (ins.V c) 0) from rfl, show k0_pay53 (plane (ins.Q c) 0) (plane (ins.K c) 0) = headDots (64 * (4 : Fin 8).val) (head_slices 4) (plane (ins.Q c) 0) (plane (ins.K c) 0) from rfl]
  iapply Hk; iexact HO

/-- The eleventh part computes the fifth and sixth heads, and the seventh's numerator and denominator. -/
theorem wp_part11 {Kt : (Σ' (v373 : FVec F S512x1 .f32), FVec F S512x64 .f32) → sProp 𝕄} (A : Set S2x512x512.Idx) :
    filled c oM A (ins.O c)
      ⊢ iprop((filled c oM ((A ∪ headAt 0 4) ∪ headAt 0 5) (ins.O c)
          -∗ Kt ⟨headDen (headDots (64 * (6 : Fin 8).val) (head_slices 6) (plane (ins.Q c) 0) (plane (ins.K c) 0)), headNum (headDots (64 * (6 : Fin 8).val) (head_slices 6) (plane (ins.Q c) 0) (plane (ins.K c) 0)) (headCols (64 * (6 : Fin 8).val) (head_slices 6) (plane (ins.V c) 0))⟩)
        -∗ wp frame (wpE (defs₀ (F := F)) 𝒱₀ (c : Thread nD τ) none) Set.univ (atBufs (k0_part11 (F := F)) (plane (ins.Q c) 0) (plane (ins.K c) 0) (plane (ins.V c) 0) (headCols (64 * (4 : Fin 8).val) (head_slices 4) (plane (ins.V c) 0)) (headDots (64 * (4 : Fin 8).val) (head_slices 4) (plane (ins.Q c) 0) (plane (ins.K c) 0))) Kt) := by
  iintro HO Hk
  unfold atBufs
  simp only [k0_part11_eq_skeleton]
  unfold k0_part11_skel
  simp only [Prog.lift, Prog.bind_op, Prog.bind_ret, Prog.pure_eq_ret, Prog.bind_assoc]
  iapply (wp_load_any c) $$ HO; iintro %_ HO
  iapply (wp_store_head c (G := ins.O c) (w := k0_pay54 (headCols (64 * (4 : Fin 8).val) (head_slices 4) (plane (ins.V c) 0)) (headDots (64 * (4 : Fin 8).val) (head_slices 4) (plane (ins.Q c) 0) (plane (ins.K c) 0))) 0 4 rfl (ins.Q c) (ins.K c) (ins.V c) rfl rfl) $$ HO; iintro HO
  iapply (wp_load_any c) $$ HO; iintro %_ HO
  iapply (wp_store_head c (G := ins.O c) (w := k0_pay55 (plane (ins.Q c) 0) (plane (ins.K c) 0) (plane (ins.V c) 0)) 0 5 rfl (ins.Q c) (ins.K c) (ins.V c) rfl rfl) $$ HO; iintro HO
  rw [wp_ret]; imodintro
  rw [show k0_pay57 (plane (ins.Q c) 0) (plane (ins.K c) 0) = headDen (headDots (64 * (6 : Fin 8).val) (head_slices 6) (plane (ins.Q c) 0) (plane (ins.K c) 0)) from rfl,
    show k0_pay58 (plane (ins.Q c) 0) (plane (ins.K c) 0) (plane (ins.V c) 0) = headNum (headDots (64 * (6 : Fin 8).val) (head_slices 6) (plane (ins.Q c) 0) (plane (ins.K c) 0)) (headCols (64 * (6 : Fin 8).val) (head_slices 6) (plane (ins.V c) 0)) from rfl]
  iapply Hk; iexact HO

/-- The twelfth part finishes batch 0: its last two heads and its output projection; then it loads two planes of batch 1. -/
theorem wp_part12 {Kt : (Σ' (v406 : FVec F S512x512 .bf16), FVec F S512x512 .bf16) → sProp 𝕄} (A B : Set S2x512x512.Idx)
    (hA : ∀ i ∈ planeAt 0, i ∈ (A ∪ headAt 0 6) ∪ headAt 0 7) :
    iprop(projs ins c Set.univ ∗ filled c oM A (ins.O c) ∗ filled c yM B (ins.Y c))
      ⊢ iprop((iprop(projs ins c Set.univ ∗ filled c oM ((A ∪ headAt 0 6) ∪ headAt 0 7) (ins.O c) ∗ filled c yM (B ∪ planeAt 0) (ins.Y c))
          -∗ Kt ⟨plane (ins.Q c) 1, plane (ins.K c) 1⟩)
        -∗ wp frame (wpE (defs₀ (F := F)) 𝒱₀ (c : Thread nD τ) none) Set.univ (atBufs (k0_part12 (F := F)) (ins.wo c) (plane (ins.Q c) 0) (plane (ins.K c) 0) (plane (ins.V c) 0) (headDen (headDots (64 * (6 : Fin 8).val) (head_slices 6) (plane (ins.Q c) 0) (plane (ins.K c) 0))) (headNum (headDots (64 * (6 : Fin 8).val) (head_slices 6) (plane (ins.Q c) 0) (plane (ins.K c) 0)) (headCols (64 * (6 : Fin 8).val) (head_slices 6) (plane (ins.V c) 0)))) Kt) := by
  iintro ⟨Hp, HO, HY⟩ Hk
  unfold projs
  icases Hp with ⟨HQ, HK, HV⟩
  unfold atBufs
  simp only [k0_part12_eq_skeleton]
  unfold k0_part12_skel
  simp only [Prog.lift, Prog.bind_op, Prog.bind_ret, Prog.pure_eq_ret, Prog.bind_assoc]
  iapply (wp_load_any c) $$ HO; iintro %_ HO
  iapply (wp_store_head c (G := ins.O c) (w := k0_pay59 (headDen (headDots (64 * (6 : Fin 8).val) (head_slices 6) (plane (ins.Q c) 0) (plane (ins.K c) 0))) (headNum (headDots (64 * (6 : Fin 8).val) (head_slices 6) (plane (ins.Q c) 0) (plane (ins.K c) 0)) (headCols (64 * (6 : Fin 8).val) (head_slices 6) (plane (ins.V c) 0)))) 0 6 rfl (ins.Q c) (ins.K c) (ins.V c) rfl rfl) $$ HO; iintro HO
  iapply (wp_load_any c) $$ HO; iintro %_ HO
  iapply (wp_store_head c (G := ins.O c) (w := k0_pay60 (plane (ins.Q c) 0) (plane (ins.K c) 0) (plane (ins.V c) 0)) 0 7 rfl (ins.Q c) (ins.K c) (ins.V c) rfl rfl) $$ HO; iintro HO
  iapply (wp_load_plane c 0 rfl hA) $$ HO; iintro %w %hw HO
  iapply (wp_load_any c) $$ HY; iintro %_ HY
  iapply (wp_store_plane c (G := ins.Y c) (w := k0_pay61 (ins.wo c) w) 0 rfl (ins.wo c) (ins.O c) rfl (by rw [← hw]; rfl)) $$ HY; iintro HY
  iapply (wp_load_plane c (A := Set.univ) 1 rfl (fun _ _ => trivial)) $$ HQ; iintro %q %hq HQ
  iapply (wp_load_plane c (A := Set.univ) 1 rfl (fun _ _ => trivial)) $$ HK; iintro %k %hk HK
  rw [wp_ret]; imodintro
  rw [show k0_pay62 q = plane (ins.Q c) 1 from hq, show k0_pay63 k = plane (ins.K c) 1 from hk]
  iapply Hk
  isplitl [HQ HK HV]
  · isplitl [HQ]; · iexact HQ
    isplitl [HK] <;> iassumption
  isplitl [HO] <;> iassumption

/-- The thirteenth part computes the first two heads of batch 1, and what the third starts with. -/
theorem wp_part13 {Kt : (Σ' (v410 : FVec F S512x512 .bf16) (v447 : FVec F S512x64 .bf16) (v448 : FVec F S512x512 .f32), F .f32) → sProp 𝕄} (A : Set S2x512x512.Idx) :
    iprop(projs ins c Set.univ ∗ filled c oM A (ins.O c))
      ⊢ iprop((iprop(projs ins c Set.univ ∗ filled c oM ((A ∪ headAt 1 0) ∪ headAt 1 1) (ins.O c))
          -∗ Kt ⟨plane (ins.V c) 1, headCols (64 * (2 : Fin 8).val) (head_slices 2) (plane (ins.V c) 1), headDots (64 * (2 : Fin 8).val) (head_slices 2) (plane (ins.Q c) 1) (plane (ins.K c) 1), Scalar.ofBits .f32 0x3E000000#32⟩)
        -∗ wp frame (wpE (defs₀ (F := F)) 𝒱₀ (c : Thread nD τ) none) Set.univ (atBufs (k0_part13 (F := F)) (plane (ins.Q c) 1) (plane (ins.K c) 1)) Kt) := by
  iintro ⟨Hp, HO⟩ Hk
  unfold projs
  icases Hp with ⟨HQ, HK, HV⟩
  unfold atBufs
  simp only [k0_part13_eq_skeleton]
  unfold k0_part13_skel
  simp only [Prog.lift, Prog.bind_op, Prog.bind_ret, Prog.pure_eq_ret, Prog.bind_assoc]
  iapply (wp_load_plane c (A := Set.univ) 1 rfl (fun _ _ => trivial)) $$ HV; iintro %v %hv HV
  iapply (wp_load_any c) $$ HO; iintro %_ HO
  iapply (wp_store_head c (G := ins.O c) (w := k0_pay65 (plane (ins.Q c) 1) (plane (ins.K c) 1) v) 1 0 rfl (ins.Q c) (ins.K c) (ins.V c) rfl (by rw [← hv]; rfl)) $$ HO; iintro HO
  iapply (wp_load_any c) $$ HO; iintro %_ HO
  iapply (wp_store_head c (G := ins.O c) (w := k0_pay66 (plane (ins.Q c) 1) (plane (ins.K c) 1) v) 1 1 rfl (ins.Q c) (ins.K c) (ins.V c) rfl (by rw [← hv]; rfl)) $$ HO; iintro HO
  rw [wp_ret]; imodintro
  rw [show k0_pay64 v = plane (ins.V c) 1 from hv, show k0_pay67 v = headCols (64 * (2 : Fin 8).val) (head_slices 2) (plane (ins.V c) 1) from by rw [← hv]; rfl,
    show k0_pay68 (plane (ins.Q c) 1) (plane (ins.K c) 1) = headDots (64 * (2 : Fin 8).val) (head_slices 2) (plane (ins.Q c) 1) (plane (ins.K c) 1) from rfl]
  iapply Hk
  isplitl [HQ HK HV]
  · isplitl [HQ]; · iexact HQ
    isplitl [HK] <;> iassumption
  iexact HO

/-- The fourteenth part computes the third and fourth heads, and the fifth's numerator and denominator. -/
theorem wp_part14 {Kt : (Σ' (v489 : FVec F S512x64 .f32), FVec F S512x64 .f32) → sProp 𝕄} (A : Set S2x512x512.Idx) :
    filled c oM A (ins.O c)
      ⊢ iprop((filled c oM ((A ∪ headAt 1 2) ∪ headAt 1 3) (ins.O c)
          -∗ Kt ⟨headNum (headDots (64 * (4 : Fin 8).val) (head_slices 4) (plane (ins.Q c) 1) (plane (ins.K c) 1)) (headCols (64 * (4 : Fin 8).val) (head_slices 4) (plane (ins.V c) 1)), broadcastTo S512x64 (headDen (headDots (64 * (4 : Fin 8).val) (head_slices 4) (plane (ins.Q c) 1) (plane (ins.K c) 1))) broadcasts_S512x1_S512x64⟩)
        -∗ wp frame (wpE (defs₀ (F := F)) 𝒱₀ (c : Thread nD τ) none) Set.univ (atBufs (k0_part14 (F := F)) (plane (ins.Q c) 1) (plane (ins.K c) 1) (plane (ins.V c) 1) (headCols (64 * (2 : Fin 8).val) (head_slices 2) (plane (ins.V c) 1)) (headDots (64 * (2 : Fin 8).val) (head_slices 2) (plane (ins.Q c) 1) (plane (ins.K c) 1)) (Scalar.ofBits .f32 0x3E000000#32)) Kt) := by
  iintro HO Hk
  unfold atBufs
  simp only [k0_part14_eq_skeleton]
  unfold k0_part14_skel
  simp only [Prog.lift, Prog.bind_op, Prog.bind_ret, Prog.pure_eq_ret, Prog.bind_assoc]
  iapply (wp_load_any c) $$ HO; iintro %_ HO
  iapply (wp_store_head c (G := ins.O c) (w := k0_pay69 (headCols (64 * (2 : Fin 8).val) (head_slices 2) (plane (ins.V c) 1)) (headDots (64 * (2 : Fin 8).val) (head_slices 2) (plane (ins.Q c) 1) (plane (ins.K c) 1)) (Scalar.ofBits .f32 0x3E000000#32)) 1 2 rfl (ins.Q c) (ins.K c) (ins.V c) rfl rfl) $$ HO; iintro HO
  iapply (wp_load_any c) $$ HO; iintro %_ HO
  iapply (wp_store_head c (G := ins.O c) (w := k0_pay70 (plane (ins.Q c) 1) (plane (ins.K c) 1) (plane (ins.V c) 1)) 1 3 rfl (ins.Q c) (ins.K c) (ins.V c) rfl rfl) $$ HO; iintro HO
  rw [wp_ret]; imodintro
  rw [show k0_pay72 (plane (ins.Q c) 1) (plane (ins.K c) 1) (plane (ins.V c) 1) = headNum (headDots (64 * (4 : Fin 8).val) (head_slices 4) (plane (ins.Q c) 1) (plane (ins.K c) 1)) (headCols (64 * (4 : Fin 8).val) (head_slices 4) (plane (ins.V c) 1)) from rfl,
    show k0_pay73 (plane (ins.Q c) 1) (plane (ins.K c) 1) = broadcastTo S512x64 (headDen (headDots (64 * (4 : Fin 8).val) (head_slices 4) (plane (ins.Q c) 1) (plane (ins.K c) 1))) broadcasts_S512x1_S512x64 from rfl]
  iapply Hk; iexact HO

/-- The fifteenth part computes the fifth, sixth and seventh heads, and takes the eighth's queries. -/
theorem wp_part15 {Kt : FVec F S512x64 .bf16 → sProp 𝕄} (A : Set S2x512x512.Idx) :
    filled c oM A (ins.O c)
      ⊢ iprop((filled c oM (((A ∪ headAt 1 4) ∪ headAt 1 5) ∪ headAt 1 6) (ins.O c) -∗ Kt (headCols (64 * (7 : Fin 8).val) (head_slices 7) (plane (ins.Q c) 1)))
        -∗ wp frame (wpE (defs₀ (F := F)) 𝒱₀ (c : Thread nD τ) none) Set.univ (atBufs (k0_part15 (F := F)) (plane (ins.Q c) 1) (plane (ins.K c) 1) (plane (ins.V c) 1) (headNum (headDots (64 * (4 : Fin 8).val) (head_slices 4) (plane (ins.Q c) 1) (plane (ins.K c) 1)) (headCols (64 * (4 : Fin 8).val) (head_slices 4) (plane (ins.V c) 1))) (broadcastTo S512x64 (headDen (headDots (64 * (4 : Fin 8).val) (head_slices 4) (plane (ins.Q c) 1) (plane (ins.K c) 1))) broadcasts_S512x1_S512x64)) Kt) := by
  iintro HO Hk
  unfold atBufs
  simp only [k0_part15_eq_skeleton]
  unfold k0_part15_skel
  simp only [Prog.lift, Prog.bind_op, Prog.bind_ret, Prog.pure_eq_ret, Prog.bind_assoc]
  iapply (wp_load_any c) $$ HO; iintro %_ HO
  iapply (wp_store_head c (G := ins.O c) (w := k0_pay74 (headNum (headDots (64 * (4 : Fin 8).val) (head_slices 4) (plane (ins.Q c) 1) (plane (ins.K c) 1)) (headCols (64 * (4 : Fin 8).val) (head_slices 4) (plane (ins.V c) 1))) (broadcastTo S512x64 (headDen (headDots (64 * (4 : Fin 8).val) (head_slices 4) (plane (ins.Q c) 1) (plane (ins.K c) 1))) broadcasts_S512x1_S512x64)) 1 4 rfl (ins.Q c) (ins.K c) (ins.V c) rfl rfl) $$ HO; iintro HO
  iapply (wp_load_any c) $$ HO; iintro %_ HO
  iapply (wp_store_head c (G := ins.O c) (w := k0_pay75 (plane (ins.Q c) 1) (plane (ins.K c) 1) (plane (ins.V c) 1)) 1 5 rfl (ins.Q c) (ins.K c) (ins.V c) rfl rfl) $$ HO; iintro HO
  iapply (wp_load_any c) $$ HO; iintro %_ HO
  iapply (wp_store_head c (G := ins.O c) (w := k0_pay76 (plane (ins.Q c) 1) (plane (ins.K c) 1) (plane (ins.V c) 1)) 1 6 rfl (ins.Q c) (ins.K c) (ins.V c) rfl rfl) $$ HO; iintro HO
  rw [wp_ret]; imodintro
  rw [show k0_pay77 (plane (ins.Q c) 1) = headCols (64 * (7 : Fin 8).val) (head_slices 7) (plane (ins.Q c) 1) from rfl]
  iapply Hk; iexact HO

theorem dst_rev (r : Fin 3) : (dst c r.rev).val = (c.val + r.val + 1) % 4 := by revert c r; decide
theorem off5_eq (r : Fin 3) : k0_off5 c (BitVec.ofNat 32 (1 + r.val)) = ![0, 128 * (dst c r.rev).val, 0] := by rw [dst_rev]; exact k0_off5_eq c r

/-- The sixteenth part finishes batch 1, and puts the first peer's block of partial results into its slot. -/
theorem wp_part16 {Kt : BitVec 32 → sProp 𝕄} (v2 : BitVec 32) (A : Set S2x512x512.Idx) (Z : S2x128x512.Idx → Elt F .bf16)
    (hA : ∀ i ∈ planeAt 1, i ∈ A ∪ headAt 1 7) :
    iprop(filled c oM A (ins.O c) ∗ filled c yM (∅ ∪ planeAt 0) (ins.Y c) ∗ owns (c : Thread nD τ) (slotM ysM 0) fullShare Z)
      ⊢ iprop((∀ v554, iprop(filled c oM (A ∪ headAt 1 7) (ins.O c) ∗ filled c yM Set.univ (ins.Y c) ∗ owns (c : Thread nD τ) (slotM ysM 0) fullShare (ins.load.T c (dst c 2)))
          -∗ Kt v554)
        -∗ wp frame (wpE (defs₀ (F := F)) 𝒱₀ (c : Thread nD τ) none) Set.univ (atBufs (k0_part16 (F := F)) c v2 (ins.wo c) (plane (ins.K c) 1) (plane (ins.V c) 1) (headCols (64 * (7 : Fin 8).val) (head_slices 7) (plane (ins.Q c) 1))) Kt) := by
  iintro ⟨HO, HY, Hs⟩ Hk
  unfold atBufs
  simp only [k0_part16_eq_skeleton]
  unfold k0_part16_skel
  simp only [Prog.lift, Prog.bind_op, Prog.bind_ret, Prog.pure_eq_ret, Prog.bind_assoc]
  iapply (wp_load_any c) $$ HO; iintro %_ HO
  iapply (wp_store_head c (G := ins.O c) (w := k0_pay78 (plane (ins.K c) 1) (plane (ins.V c) 1) (headCols (64 * (7 : Fin 8).val) (head_slices 7) (plane (ins.Q c) 1))) 1 7 rfl (ins.Q c) (ins.K c) (ins.V c) rfl rfl) $$ HO; iintro HO
  iapply (wp_load_plane c 1 rfl hA) $$ HO; iintro %w %hw HO
  iapply (wp_load_any c) $$ HY; iintro %_ HY
  iapply (wp_store_plane c (G := ins.Y c) (w := k0_pay79 (ins.wo c) w) 1 rfl (ins.wo c) (ins.O c) rfl (by rw [← hw]; rfl)) $$ HY; iintro HY
  ihave HY := (filled_mono c yM (ins.Y c) (fun i _ => planes_cover i)) $$ HY
  iapply (wp_load_rows c (dst c 2) (off5_eq c 0)) $$ HY; iintro HY
  iapply (wp_load_slot c (M := ysM) 0) $$ Hs; iintro %_ %_ Hs
  iapply (wp_store_slot c (M := ysM) (w := k0_pay80 (rowsOf (ins.Y c) (dst c 2))) 0 (Z := ins.load.T c (dst c 2)) (shapeCast_shapeCast _ _ _)) $$ Hs; iintro Hs
  rw [wp_ret]; imodintro
  iapply Hk
  isplitl [HO]; · iexact HO
  isplitl [HY] <;> iassumption

end Cert.KernelIdealAttn
-- ==== Proof.KernelIdeal.Leave.lean ====
/-
  The kernel's body, last part: the scatter of the partial results, their sum, and the waits for the transfers' ends.
-/
module

public import proofs.«01_k».proof.Proof.KernelIdeal.Attend

@[expose] public section

set_option maxRecDepth 16384

noncomputable section

namespace Cert.KernelIdealAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (ins : Ins F) (K : Dev nD × CI → ℕ) (c : Dev nD)

/-- The seventeenth part sends the first peer's block, and puts the second's into its slot. -/
theorem wp_part17 {Kt : PUnit → sProp 𝕄} (v2 v554 : BitVec 32) (Z : S2x128x512.Idx → Elt F .bf16) :
    iprop(records ins.load K ∗ owing c (Oscat c) ∗ filled c yM Set.univ (ins.Y c) ∗ owns (c : Thread nD τ) (slotM ysM 0) fullShare (ins.load.T c (dst c 2)) ∗ sendPre c true 2
        ∗ owns (c : Thread nD τ) (slotM ysM 1) fullShare Z)
      ⊢ iprop((iprop(owing c (0 + owedX true 0 c + owedX true 1 c) ∗ filled c yM Set.univ (ins.Y c) ∗ cred (tallyAt (sndCell true 2 c) () N) ∗ owns (c : Thread nD τ) (slotM ysM 1) fullShare (ins.load.T c (dst c 1))) -∗ Kt ⟨⟩)
        -∗ wp frame (wpE (defs₀ (F := F)) 𝒱₀ (c : Thread nD τ) none) Set.univ (atBufs (k0_part17 (F := F)) c v2 v554) Kt) := by
  iintro ⟨#HR, HO, HY, Hs2, Hp2, Hs1⟩ Hk
  unfold atBufs
  simp only [k0_part17_eq_skeleton]
  unfold k0_part17_skel
  simp only [Prog.lift, Prog.bind_op, Prog.bind_ret, Prog.pure_eq_ret, Prog.bind_assoc]
  unfold Oscat
  unfold sendPre
  icases Hp2 with ⟨Hr2, Hx2, Hy2⟩
  iapply (wp_send_peer ins.load K c true 2 _ (dev7 c) rfl rfl rfl rfl (0 + owedX true 0 c + owedX true 1 c)) $$ [HO Hs2 Hr2 Hx2 Hy2]
  · isplitr; · iexact HR
    isplitl [Hs2]; · unfold lent; iexact Hs2
    isplitl [Hr2]; · iexact Hr2
    isplitl [HO]; · iexact HO
    isplitl [Hx2] <;> iassumption
  iintro ⟨HO, Hc2⟩
  iapply (wp_load_rows c (dst c 1) (off5_eq c 1)) $$ HY; iintro HY
  iapply (wp_load_slot c (M := ysM) 1) $$ Hs1; iintro %_ %_ Hs1
  iapply (wp_store_slot c (M := ysM) (w := k0_pay81 (rowsOf (ins.Y c) (dst c 1))) 1 (Z := ins.load.T c (dst c 1)) (shapeCast_shapeCast _ _ _)) $$ Hs1; iintro Hs1
  rw [wp_ret]; imodintro
  iapply Hk
  isplitl [HO]; · iexact HO
  isplitl [HY]; · iexact HY
  isplitl [Hc2] <;> iassumption

/-- The eighteenth part sends the second peer's block, puts the third's into its slot and sends it, then loads the device's own rows. -/
theorem wp_part18 {Kt : Vec F S2x128x512 .f32 → sProp 𝕄} (v2 : BitVec 32) (Z : S2x128x512.Idx → Elt F .bf16) :
    iprop(records ins.load K ∗ owing c (0 + owedX true 0 c + owedX true 1 c) ∗ filled c yM Set.univ (ins.Y c) ∗ owns (c : Thread nD τ) (slotM ysM 1) fullShare (ins.load.T c (dst c 1)) ∗ sendPre c true 1
        ∗ owns (c : Thread nD τ) (slotM ysM 2) fullShare Z ∗ sendPre c true 0)
      ⊢ iprop((iprop(owing c 0 ∗ filled c yM Set.univ (ins.Y c) ∗ cred (tallyAt (sndCell true 1 c) () N) ∗ cred (tallyAt (sndCell true 0 c) () N)) -∗ Kt (rowsOf (ins.Y c) c))
        -∗ wp frame (wpE (defs₀ (F := F)) 𝒱₀ (c : Thread nD τ) none) Set.univ (atBufs (k0_part18 (F := F)) c v2) Kt) := by
  iintro ⟨#HR, HO, HY, Hs1, Hp1, Hs0, Hp0⟩ Hk
  unfold atBufs
  simp only [k0_part18_eq_skeleton]
  unfold k0_part18_skel
  simp only [Prog.lift, Prog.bind_op, Prog.bind_ret, Prog.pure_eq_ret, Prog.bind_assoc]
  unfold sendPre
  icases Hp1 with ⟨Hr1, Hx1, Hy1⟩
  iapply (wp_send_peer ins.load K c true 1 _ (dev8 c) rfl rfl rfl rfl (0 + owedX true 0 c)) $$ [HO Hs1 Hr1 Hx1 Hy1]
  · isplitr; · iexact HR
    isplitl [Hs1]; · unfold lent; iexact Hs1
    isplitl [Hr1]; · iexact Hr1
    isplitl [HO]; · iexact HO
    isplitl [Hx1] <;> iassumption
  iintro ⟨HO, Hc1⟩
  iapply (wp_load_rows c (dst c 0) (off5_eq c 2)) $$ HY; iintro HY
  iapply (wp_load_slot c (M := ysM) 2) $$ Hs0; iintro %_ %_ Hs0
  iapply (wp_store_slot c (M := ysM) (w := k0_pay82 (rowsOf (ins.Y c) (dst c 0))) 2 (Z := ins.load.T c (dst c 0)) (shapeCast_shapeCast _ _ _)) $$ Hs0; iintro Hs0
  icases Hp0 with ⟨Hr0, Hx0, Hy0⟩
  iapply (wp_send_peer ins.load K c true 0 _ (dev9 c) rfl rfl rfl rfl (0)) $$ [HO Hs0 Hr0 Hx0 Hy0]
  · isplitr; · iexact HR
    isplitl [Hs0]; · unfold lent; iexact Hs0
    isplitl [Hr0]; · iexact Hr0
    isplitl [HO]; · iexact HO
    isplitl [Hx0] <;> iassumption
  iintro ⟨HO, Hc0⟩
  iapply (wp_load_rows c c (k0_off6_eq c)) $$ HY; iintro HY
  rw [wp_ret]; imodintro
  iapply Hk
  isplitl [HO]; · iexact HO
  isplitl [HY]; · iexact HY
  isplitl [Hc1] <;> iassumption

/-- What a wait on a landing end of the scatter leaves of the slot: the peer's block, and the counter at zero. -/
def scattered (r : Fin 3) : sProp 𝕄 :=
  iprop(owns (c : Thread nD τ) (slotM rsM r) fullShare (ins.load.T (src c r) c) ∗ semVal (rcvCell true r c) 0)

/-- The wait for the block of slot `r`. -/
theorem wp_wait_scatter {α : Type} {Q : α → sProp 𝕄} {k : PUnit → Prog (TpuEff nD τ sig (Elt F) Λ₀ .tc) α} (r r' : Fin 3) {sR : DmaSem sig} (hsR : sR = rcvS true r := by rfl)
    {hsrc : (slotM ysM r').view.WordExact} {hdst : (slotM rsM r).view.WordExact} :
    iprop(records ins.load K ∗ owing c 0 ∗ recvPre c true r)
      ⊢ iprop((iprop(owing c 0 ∗ owns (c : Thread nD τ) (slotM rsM r) fullShare (ins.load.T (src c r) c) ∗ semVal (rcvCell true r c) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR (slotM ysM r') (slotM rsM r) hsrc hdst) k) Q) := by
  iintro ⟨#HR, HO, Hrc⟩ Hk
  unfold recvPre; icases Hrc with ⟨Hc, Hat⟩
  iapply (wp_wait_rcv ins.load K c true r hsR (sm := slotM ysM r') (dm := slotM rsM r) (dstM_amount true r (rcvS true r)) 3 (by rw [role_rcv]; exact le_refl _) (above_zero 3)) $$ [HO Hc Hat]
  · isplitr; · iexact HR
    isplitl [HO]; · iexact HO
    isplitl [Hc] <;> iassumption
  iintro ⟨HO, Hl, Hz⟩
  iapply Hk
  isplitl [HO]; · iexact HO
  isplitl [Hl]
  · have h : landed ins.load true r c ⊢ owns (c : Thread nD τ) (slotM rsM r) fullShare (ins.load.T (src c r) c) := by
      unfold landed Load.val; dsimp only; rw [dst_src]; exact Entails.refl _
    iapply h; iexact Hl
  iexact Hz

/-- What a wait on a sending end needs, and what it leaves. -/
def sentPre (b : Bool) (r : Fin 3) : sProp 𝕄 := iprop(cred (tallyAt (sndCell b r c) () N) ∗ atPos ER (sndCell b r c) 0 ∅ 0)
def sent (b : Bool) (r : Fin 3) : sProp 𝕄 := iprop(lent ins.load b r c ∗ semVal (sndCell b r c) 0)

theorem wp_wait_sent {α : Type} {Q : α → sProp 𝕄} {k : PUnit → Prog (TpuEff nD τ sig (Elt F) Λ₀ .tc) α} (b : Bool) (r : Fin 3) {sS : DmaSem sig} (hsS : sS = sndS b r)
    {sm dm : Memref sig .tc .vmem S2x128x512 .bf16} (hdm : dm = srcM b r) {hsrc : sm.view.WordExact} {hdst : dm.view.WordExact} :
    iprop(records ins.load K ∗ owing c 0 ∗ sentPre c b r)
      ⊢ iprop((iprop(owing c 0 ∗ sent ins c b r) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS sm dm hsrc hdst) k) Q) := by
  subst hdm
  iintro ⟨#HR, HO, Hd⟩ Hk
  unfold sentPre; icases Hd with ⟨Hc, Hat⟩
  iapply (wp_wait_snd ins.load K c b r hsS (sm := sm) (dm := srcM b r) (srcM_amount b r (sndS b r))) $$ [HO Hc Hat]
  · isplitr; · iexact HR
    isplitl [HO]; · iexact HO
    isplitl [Hc] <;> iassumption
  iintro ⟨HO, Hl, Hz⟩
  iapply Hk
  isplitl [HO]; · iexact HO
  unfold sent
  isplitl [Hl] <;> iassumption

/-- The nineteenth part waits for two peers' blocks and adds them. -/
theorem wp_part19 {Kt : FVec F S2x128x512 .f32 → sProp 𝕄} (v2 : BitVec 32) (y : FVec F S2x128x512 .f32) :
    iprop(records ins.load K ∗ owing c 0 ∗ recvPre c true 2 ∗ recvPre c true 0)
      ⊢ iprop((iprop(owing c 0 ∗ scattered ins c 2 ∗ scattered ins c 0)
          -∗ Kt (addf (addf y (extf .f32 (ins.load.T (src c 2) c) bitsLt_bf16_f32)) (extf .f32 (ins.load.T (src c 0) c) bitsLt_bf16_f32)))
        -∗ wp frame (wpE (defs₀ (F := F)) 𝒱₀ (c : Thread nD τ) none) Set.univ (atBufs (k0_part19 (F := F)) v2 y) Kt) := by
  iintro ⟨#HR, HO, Hw2, Hw0⟩ Hk
  unfold atBufs
  simp only [k0_part19_eq_skeleton]
  unfold k0_part19_skel
  simp only [Prog.lift, Prog.bind_op, Prog.bind_ret, Prog.pure_eq_ret, Prog.bind_assoc]
  iapply (wp_wait_scatter ins K c 2 0 (sR := rcvS true 2)) $$ [HO Hw2]
  · isplitr; · iexact HR
    isplitl [HO] <;> iassumption
  iintro ⟨HO, Hl2, Hz2⟩
  iapply (wp_load_slot c (M := rsM) 2) $$ Hl2; iintro %a %ha Hl2
  iapply (wp_wait_scatter ins K c 0 0 (sR := rcvS true 0)) $$ [HO Hw0]
  · isplitr; · iexact HR
    isplitl [HO] <;> iassumption
  iintro ⟨HO, Hl0, Hz0⟩
  iapply (wp_load_slot c (M := rsM) 0) $$ Hl0; iintro %b %hb Hl0
  rw [wp_ret]; imodintro
  rw [show k0_pay83 y a b = addf (addf y (extf .f32 (ins.load.T (src c 2) c) bitsLt_bf16_f32)) (extf .f32 (ins.load.T (src c 0) c) bitsLt_bf16_f32) from by
    rw [← ha, ← hb]; rfl]
  iapply Hk
  unfold scattered
  isplitl [HO]; · iexact HO
  isplitl [Hl2 Hz2]
  · isplitl [Hl2] <;> iassumption
  isplitl [Hl0] <;> iassumption

/-- The twentieth part waits for the third peer's block, adds it, stores the result, and waits until the activations are all read. -/
theorem wp_part20 {Kt : PUnit → sProp 𝕄} (s : FVec F S2x128x512 .f32) (Z : S2x128x512.Idx → Elt F .f32) :
    iprop(records ins.load K ∗ owing c 0 ∗ recvPre c true 1 ∗ owns (c : Thread nD τ) outM fullShare Z ∗ sentPre c false 0 ∗ sentPre c false 1 ∗ sentPre c false 2)
      ⊢ iprop((iprop(owing c 0 ∗ scattered ins c 1 ∗ owns (c : Thread nD τ) outM fullShare (addf s (extf .f32 (ins.load.T (src c 1) c) bitsLt_bf16_f32))
            ∗ sent ins c false 0 ∗ sent ins c false 1 ∗ sent ins c false 2) -∗ Kt ⟨⟩)
        -∗ wp frame (wpE (defs₀ (F := F)) 𝒱₀ (c : Thread nD τ) none) Set.univ (atBufs (k0_part20 (F := F)) s) Kt) := by
  iintro ⟨#HR, HO, Hw1, Hout, Hd0, Hd1, Hd2⟩ Hk
  unfold atBufs
  simp only [k0_part20_eq_skeleton]
  unfold k0_part20_skel
  simp only [Prog.lift, Prog.bind_op, Prog.bind_ret, Prog.pure_eq_ret, Prog.bind_assoc]
  iapply (wp_wait_scatter ins K c 1 0 (sR := rcvS true 1)) $$ [HO Hw1]
  · isplitr; · iexact HR
    isplitl [HO] <;> iassumption
  iintro ⟨HO, Hl1, Hz1⟩
  iapply (wp_load_slot c (M := rsM) 1) $$ Hl1; iintro %a %ha Hl1
  iapply (wp_load_whole c fullShare) $$ Hout; iintro Hout
  iapply (wp_store_whole c) $$ Hout; iintro Hout
  rw [show k0_pay84 s a = addf s (extf .f32 (ins.load.T (src c 1) c) bitsLt_bf16_f32) from by rw [← ha]; rfl]
  unfold sentPre
  icases Hd2 with ⟨Hc2, Ha2⟩
  iapply (wp_wait_sent ins K c false 2 (sS := sndS false 2) rfl rfl) $$ [HO Hc2 Ha2]
  · isplitr; · iexact HR
    isplitl [HO]; · iexact HO
    unfold sentPre
    isplitl [Hc2] <;> iassumption
  iintro ⟨HO, Hg2⟩
  icases Hd1 with ⟨Hc1, Ha1⟩
  iapply (wp_wait_sent ins K c false 1 (sS := sndS false 1) rfl rfl) $$ [HO Hc1 Ha1]
  · isplitr; · iexact HR
    isplitl [HO]; · iexact HO
    unfold sentPre
    isplitl [Hc1] <;> iassumption
  iintro ⟨HO, Hg1⟩
  icases Hd0 with ⟨Hc0, Ha0⟩
  iapply (wp_wait_sent ins K c false 0 (sS := sndS false 0) rfl rfl) $$ [HO Hc0 Ha0]
  · isplitr; · iexact HR
    isplitl [HO]; · iexact HO
    unfold sentPre
    isplitl [Hc0] <;> iassumption
  iintro ⟨HO, Hg0⟩
  rw [wp_ret]; imodintro
  iapply Hk
  isplitl [HO]; · iexact HO
  isplitl [Hl1 Hz1]
  · unfold scattered; isplitl [Hl1] <;> iassumption
  isplitl [Hout]; · iexact Hout
  isplitl [Hg0]; · iexact Hg0
  isplitl [Hg1] <;> iassumption

end Cert.KernelIdealAttn
-- ==== Proof.KernelIdeal.Memory.lean ====
/-
  The scratch buffers taken apart for the exchange and put together again: three slots, and the shares in which the
  activations are lent.
-/
module

public import proofs.«01_k».proof.Proof.KernelIdeal.Leave

@[expose] public section

set_option maxRecDepth 16384

noncomputable section

namespace Cert.KernelIdealAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (c : Dev nD)

/-! ## The three slots of a buffer -/

section Slots
variable (M : Memref sig .tc .vmem S3x2x128x512 .bf16)

set_option backward.proofsInPublic true in
omit [FloatOps F] in
/-- An element of a three-slot buffer lies in the slot of its first coordinate. -/
theorem mem_slotRect (r : Fin 3) (i : S3x2x128x512.Idx) : Iff (i ∈ (slotRect r).set) ((i 0).val = r.val) := by
  rw [← Rect.map_emb_univ, Finset.mem_map]
  constructor
  · rintro ⟨j, -, rfl⟩
    have h : (j 0).val < 1 := (j 0).isLt
    show r.val + 1 * (j 0).val = r.val; omega
  · intro h
    refine ⟨(fun a => ⟨(![0, (i 1).val, (i 2).val, (i 3).val] : Fin 4 → ℕ) a, ?_⟩ : S1x2x128x512.Idx), Finset.mem_univ _, ?_⟩
    · fin_cases a
      · exact Nat.one_pos
      · exact (i 1).isLt
      · exact (i 2).isLt
      · exact (i 3).isLt
    · funext a; refine Fin.ext ?_
      fin_cases a
      · show r.val + 1 * 0 = (i 0).val; omega
      · show 0 + 1 * (i 1).val = (i 1).val; omega
      · show 0 + 1 * (i 2).val = (i 2).val; omega
      · show 0 + 1 * (i 3).val = (i 3).val; omega

theorem slots_disjoint (r r' : Fin 3) (h : r ≠ r') : Disjoint (slotM M r).view.set (slotM M r').view.set := by
  rw [slotM_set, slotM_set, View.set_slice, View.set_slice]
  refine (Finset.disjoint_map _).mpr (Finset.disjoint_left.mpr fun i hi hi' => h (Fin.ext ?_))
  rw [← (mem_slotRect r i).mp hi, ← (mem_slotRect r' i).mp hi']

theorem slots_cover : M.view.set = (Finset.univ : Finset (Fin 3)).biUnion fun r => (slotM M r).view.set := by
  ext i; constructor
  · intro hi
    obtain ⟨x, -, rfl⟩ := Finset.mem_map.mp hi
    refine Finset.mem_biUnion.mpr ⟨⟨(x 0).val, (x 0).isLt⟩, Finset.mem_univ _, ?_⟩
    rw [slotM_set, View.set_slice]
    exact Finset.mem_map_of_mem _ ((mem_slotRect _ x).mpr rfl)
  · intro hi
    obtain ⟨r, -, hi⟩ := Finset.mem_biUnion.mp hi
    rw [slotM_set] at hi
    exact View.set_slice_subset _ _ hi

omit [FloatOps F] in
theorem bigSep_slots (Φ : Fin 3 → sProp 𝕄) : bigSep Finset.univ Φ = iprop(Φ 0 ∗ Φ 1 ∗ Φ 2) := bigSep_univ_eq_bigSepL [0, 1, 2] (by decide) (by decide) Φ

/-- A slot, whatever it holds. -/
def slot (r : Fin 3) : sProp 𝕄 := iprop(∃ Z, owns (c : Thread nD τ) (slotM M r) fullShare Z)

omit [FloatOps F] in
/-- A three-slot buffer is its three slots. -/
theorem slots_split (f : M.view.ty.Contents (Elt F)) :
    (M.view.loc (c : Thread nD τ) ↦[M.view.set]{fullShare} f) ⊢ (iprop(slot c M 0 ∗ slot c M 1 ∗ slot c M 2) : sProp 𝕄) := by
  have h : (M.view.loc (c : Thread nD τ) ↦[M.view.set]{fullShare} f : sProp 𝕄)
      = bigSep Finset.univ fun r : Fin 3 => (M.view.loc (c : Thread nD τ) ↦[(slotM M r).view.set]{fullShare} f) := by
    rw [slots_cover M]; exact pointsTo_biUnion _ _ fun r _ r' _ hr => slots_disjoint M r r' hr
  have h1 (r : Fin 3) : (M.view.loc (c : Thread nD τ) ↦[(slotM M r).view.set]{fullShare} f : sProp 𝕄) ⊢ slot c M r := by
    unfold slot owns
    iintro H; iexists _; iexists f; isplitr; · (ipureintro; rfl)
    iexact H
  rw [h, ← bigSep_slots (F := F) (fun r => slot c M r)]
  exact bigSep_mono fun r _ => h1 r

omit [FloatOps F] in
/-- Three slots are the buffer, with some contents. -/
theorem slots_join : iprop(slot c M 0 ∗ slot c M 1 ∗ slot c M 2) ⊢ (iprop(∃ f, M.view.loc (c : Thread nD τ) ↦[M.view.set]{fullShare} f) : sProp 𝕄) := by
  unfold slot owns
  iintro ⟨⟨%Z0, %f0, -, H0⟩, ⟨%Z1, %f1, -, H1⟩, %Z2, %f2, -, H2⟩
  have hj := pointsTo_biUnion_join (U := UU) (Ix := Unit) (Name := ℕ) (Lvl := ℕ) (ℓ := M.view.loc (c : Thread nD τ)) (q := fullShare) (Val := Elt F) (Finset.univ : Finset (Fin 3))
    (fun r => (slotM M r).view.set) (fun r => (![f0, f1, f2] : Fin 3 → M.view.ty.Contents (Elt F)) r) f0 (fun r _ r' _ hr => slots_disjoint M r r' hr)
  rw [← slots_cover M, bigSep_slots] at hj
  ihave H := hj $$ [H0 H1 H2]
  · isplitl [H0]; · iexact H0
    isplitl [H1]; · iexact H1
    iexact H2
  icases H with ⟨%g, -, H⟩
  iexists g; iexact H

end Slots

/-! ## The activations, lent in shares -/

section Shares
variable (X : S2x128x512.Idx → Elt F .bf16)

/-- The share kept while three are lent. -/
abbrev kept : PosShare TreeShare := ShareLeaves.leaf 2 fullShare ⟨3, by decide⟩

omit [FloatOps F] in
theorem shares_pts {ℓ : Loc nD τ sig} (I : Finset (Idx ℓ)) (f : Buf (Elt F) ℓ) :
    (ℓ ↦[I]{fullShare} f : sProp 𝕄) = iprop((ℓ ↦[I]{shr false 0} f) ∗ (ℓ ↦[I]{shr false 1} f) ∗ (ℓ ↦[I]{shr false 2} f) ∗ (ℓ ↦[I]{kept} f)) := by
  rw [ShareLeaves.pointsTo_leaves I f 2 fullShare]
  exact bigSep_univ_eq_bigSepL [(0 : Fin 4), 1, 2, 3] (by decide) (by decide) _

omit [FloatOps F] in
/-- The activations are the four shares of them. -/
theorem shares_eq : (owns (c : Thread nD τ) xbM fullShare X : sProp 𝕄)
    = iprop(owns (c : Thread nD τ) xbM (shr false 0) X ∗ owns (c : Thread nD τ) xbM (shr false 1) X ∗ owns (c : Thread nD τ) xbM (shr false 2) X ∗ owns (c : Thread nD τ) xbM kept X) := by
  rw [owns_whole, owns_whole, owns_whole, owns_whole, owns_whole]
  exact shares_pts _ _

end Shares

/-! ## Buffers of the scratch memory -/

section Fill
variable {s : Shape} {e : EltTy} {cs : CoreSpace} (M : Memref sig .tc cs s e)

omit [FloatOps F] in
/-- Of a buffer of any contents nothing is known yet. -/
theorem filled_start (f G : s.Idx → Elt F e) : owns (c : Thread nD τ) M fullShare f ⊢ (filled c M ∅ G : sProp 𝕄) :=
  (filled_of_owns c M ∅ f).trans (by unfold filled; iintro ⟨%g, -, H⟩; iexists g; isplitr; · ipureintro; exact fun i hi => hi.elim
                                     iexact H)

omit [FloatOps F] in
/-- A partly filled buffer is a buffer of some contents. -/
theorem filled_end (A : Set s.Idx) (G : s.Idx → Elt F e) : filled c M A G ⊢ (iprop(∃ f, owns (c : Thread nD τ) M fullShare f) : sProp 𝕄) := by
  unfold filled owns
  iintro ⟨%g, -, H⟩
  iexists _; iexists g; isplitr; · (ipureintro; rfl)
  iexact H

end Fill

end Cert.KernelIdealAttn
-- ==== Proof.KernelIdeal.Body.lean ====
/-
  The kernel body on one device, its parts put together: from the inputs, the scratch memory and the rights of the exchange
  to the result, with every counter back at zero.
-/
module

public import proofs.«01_k».proof.Proof.KernelIdeal.Memory

@[expose] public section

set_option maxRecDepth 16384

noncomputable section

namespace Cert.KernelIdealAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (ins : Ins F) (K : Dev nD × CI → ℕ) (c : Dev nD)

/-- A buffer, whatever it holds. -/
def any {s : Shape} {e : EltTy} {cs : CoreSpace} (M : Memref sig .tc cs s e) : sProp 𝕄 := iprop(∃ f, owns (c : Thread nD τ) M fullShare f)

/-- The scratch memory. -/
def scratch : sProp 𝕄 :=
  iprop(any (F := F) c xbM ∗ any (F := F) c xgM ∗ any (F := F) c qM ∗ any (F := F) c kM ∗ any (F := F) c vM ∗ any (F := F) c oM ∗ any (F := F) c yM ∗ any (F := F) c ysM ∗ any (F := F) c rsM)

/-- The five inputs. -/
def inputs : sProp 𝕄 :=
  iprop(owns (c : Thread nD τ) xM fullShare (ins.x c) ∗ owns (c : Thread nD τ) wqM fullShare (ins.wq c) ∗ owns (c : Thread nD τ) woM fullShare (ins.wo c)
    ∗ owns (c : Thread nD τ) wkM fullShare (ins.wk c) ∗ owns (c : Thread nD τ) wvM fullShare (ins.wv c))

/-- A transfer's rights: the two duties of its sender, and both ends' positions and the landing end's credit. -/
def xferPre (b : Bool) (r : Fin 3) : sProp 𝕄 :=
  iprop((dutyTok ER (sndCell b r c) 0 0 ∗ dutyTok ER (rcvCell b r (dst c r)) 0 0) ∗ recvPre c b r ∗ atPos ER (sndCell b r c) 0 ∅ 0)
/-- The barrier's: the duty to each peer, the credit of the three units, the position. -/
def barPre : sProp 𝕄 :=
  iprop((dutyTok ER (barCell (src c 0)) 0 0 ∗ dutyTok ER (barCell (src c 1)) 0 1 ∗ dutyTok ER (barCell (src c 2)) 0 2)
    ∗ cred (tallyAt (barCell c) () 3) ∗ atPos ER (barCell c) 0 ∅ 0)
/-- All of a device's rights. -/
def rights : sProp 𝕄 :=
  iprop(barPre c ∗ (xferPre c false 0 ∗ xferPre c false 1 ∗ xferPre c false 2) ∗ (xferPre c true 0 ∗ xferPre c true 1 ∗ xferPre c true 2))

/-- Both ends' counters of a transfer at zero. -/
def ended (b : Bool) (r : Fin 3) : sProp 𝕄 := iprop(semVal (sndCell b r c) 0 ∗ semVal (rcvCell b r c) 0)
/-- Every counter at zero. -/
def allEnded : sProp 𝕄 :=
  iprop(semVal (barCell c) 0 ∗ (ended (F := F) c false 0 ∗ ended (F := F) c false 1 ∗ ended (F := F) c false 2) ∗ (ended (F := F) c true 0 ∗ ended (F := F) c true 1 ∗ ended (F := F) c true 2))

/-- A landing slot is a slot of its buffer. -/
theorem room_gather (r : Fin 3) : slot c xgM r ⊢ (room (F := F) false r c : sProp 𝕄) := Entails.refl _
theorem room_scatter (r : Fin 3) : slot c rsM r ⊢ (room (F := F) true r c : sProp 𝕄) := Entails.refl _

theorem owns_slots (M : Memref sig .tc .vmem S3x2x128x512 .bf16) : any c M ⊢ (iprop(slot c M 0 ∗ slot c M 1 ∗ slot c M 2) : sProp 𝕄) := by
  have h (f : M.view.ty.Contents (Elt F)) := slots_split (F := F) c M f
  unfold any owns
  iintro ⟨%Z, %f, -, H⟩
  iapply (h f); iexact H
theorem slots_owns (M : Memref sig .tc .vmem S3x2x128x512 .bf16) : iprop(slot c M 0 ∗ slot c M 1 ∗ slot c M 2) ⊢ (iprop(∃ f, owns (c : Thread nD τ) M fullShare f) : sProp 𝕄) := by
  iintro H
  ihave H := (slots_join c M) $$ H
  icases H with ⟨%f, H⟩
  unfold owns
  iexists _; iexists f; isplitr; · (ipureintro; rfl)
  iexact H

theorem any_filled {s : Shape} {e : EltTy} {cs : CoreSpace} (M : Memref sig .tc cs s e) (G : s.Idx → Elt F e) : any c M ⊢ (filled c M ∅ G : sProp 𝕄) := by
  unfold any; iintro ⟨%f, H⟩; iapply (filled_start c M f G); iexact H

/-- After all eight row blocks the projections are whole. -/
theorem projs_all : projs ins c ((((((((∅ ∪ rowsAt 0 c) ∪ rowsAt 1 c) ∪ rowsAt 0 (src c 2)) ∪ rowsAt 1 (src c 2)) ∪ rowsAt 0 (src c 0)) ∪ rowsAt 1 (src c 0)) ∪ rowsAt 0 (src c 1)) ∪ rowsAt 1 (src c 1))
    ⊢ projs ins c Set.univ := by
  have h (M : Memref sig .tc .vmem S2x512x512 .bf16) (G : S2x512x512.Idx → Elt F .bf16) := filled_mono (F := F) c M (B := Set.univ) G (fun i _ => rows_cover c i)
  unfold projs
  iintro ⟨HQ, HK, HV⟩
  isplitl [HQ]; · iapply (h qM _); iexact HQ
  isplitl [HK]; · iapply (h kM _); iexact HK
  iapply (h vM _); iexact HV

set_option maxHeartbeats 4000000 in
/-- The body: from the inputs, the scratch memory and the rights to the result. -/
theorem wp_body {Kt : PUnit → sProp 𝕄} :
    iprop(records ins.load K ∗ owing c (O₀ c) ∗ rights c ∗ scratch c ∗ inputs ins c ∗ any (F := F) c outM)
      ⊢ iprop((iprop(owing c 0 ∗ allEnded (F := F) c ∗ scratch c ∗ inputs ins c ∗ owns (c : Thread nD τ) outM fullShare (ins.out c)) -∗ Kt ⟨⟩)
        -∗ wp frame (wpE (defs₀ (F := F)) 𝒱₀ (c : Thread nD τ) none) Set.univ (atBufs (cc0_body (F := F))) Kt) := by
  unfold rights barPre xferPre scratch inputs
  iintro ⟨#HR, HO, ⟨⟨Htb, Hcb, Hab⟩, ⟨⟨Hg0, Hgr0, Hga0⟩, ⟨Hg1, Hgr1, Hga1⟩, Hg2, Hgr2, Hga2⟩, ⟨Hs0, Hsr0, Hsa0⟩, ⟨Hs1, Hsr1, Hsa1⟩, Hs2, Hsr2, Hsa2⟩,
    ⟨Hxb, Hxg, Hq, Hkk, Hv, Ho, Hy, Hys, Hrs⟩, ⟨Hx, Hwq, Hwo, Hwk, Hwv⟩, Hout⟩ Hk
  ihave Hxg := (owns_slots c xgM) $$ Hxg
  ihave Hrs := (owns_slots c rsM) $$ Hrs
  ihave Hys := (owns_slots c ysM) $$ Hys
  icases Hxg with ⟨Hxg0, Hxg1, Hxg2⟩
  icases Hrs with ⟨Hrs0, Hrs1, Hrs2⟩
  icases Hys with ⟨Hys0, Hys1, Hys2⟩
  ihave Hxg0 := (room_gather c 0) $$ Hxg0
  ihave Hxg1 := (room_gather c 1) $$ Hxg1
  ihave Hxg2 := (room_gather c 2) $$ Hxg2
  ihave Hrs0 := (room_scatter c 0) $$ Hrs0
  ihave Hrs1 := (room_scatter c 1) $$ Hrs1
  ihave Hrs2 := (room_scatter c 2) $$ Hrs2
  ihave Hq := (any_filled c qM (ins.Q c)) $$ Hq
  ihave Hkk := (any_filled c kM (ins.K c)) $$ Hkk
  ihave Hv := (any_filled c vM (ins.V c)) $$ Hv
  ihave Ho := (any_filled c oM (ins.O c)) $$ Ho
  ihave Hy := (any_filled c yM (ins.Y c)) $$ Hy
  unfold any slot
  icases Hxb with ⟨%Zb, Hxb⟩
  icases Hout with ⟨%Zo, Hout⟩
  icases Hys0 with ⟨%Zs0, Hys0⟩
  icases Hys1 with ⟨%Zs1, Hys1⟩
  icases Hys2 with ⟨%Zs2, Hys2⟩
  unfold atBufs
  simp only [cc0_body_eq_skeleton]
  unfold cc0_body_skel
  simp only [k0_part21_eq_skeleton]
  unfold k0_part21_skel
  simp only [Prog.bind_assoc]
  -- the barrier
  rw [wp_bind]
  iapply (wp_part1 ins K c Zb) $$ [HO Htb Hcb Hab Hxg0 Hxg1 Hxg2 Hrs0 Hrs1 Hrs2 Hx Hxb]
  · isplitr; · iexact HR
    isplitr [Hx Hxb]
    · unfold entryPre
      isplitl [HO]; · iexact HO
      isplitl [Htb]; · iexact Htb
      isplitl [Hxg0 Hxg1 Hxg2 Hrs0 Hrs1 Hrs2]
      · isplitl [Hxg0 Hrs0]; · isplitl [Hxg0] <;> iassumption
        isplitl [Hxg1 Hrs1]; · isplitl [Hxg1] <;> iassumption
        isplitl [Hxg2] <;> iassumption
      isplitl [Hcb] <;> iassumption
    isplitl [Hx] <;> iassumption
  iintro %v2 %v22 ⟨HO, Hr0, Hr1, Hr2, Hzb, Hx, Hxb⟩
  unfold rooms
  icases Hr0 with ⟨Hrg0, Hrs0⟩
  icases Hr1 with ⟨Hrg1, Hrs1⟩
  icases Hr2 with ⟨Hrg2, Hrs2⟩
  ihave Hxb := (Entails.of_eq (shares_eq c (ins.x c))) $$ Hxb
  icases Hxb with ⟨Hl0, Hl1, Hl2, Hxb⟩
  -- the activations sent
  dsimp only
  rw [wp_bind]
  iapply (wp_part2 ins K c v2 v22 1#32) $$ [HO Hl0 Hl1 Hl2 Hg0 Hg1 Hg2 Hrg0 Hrg1 Hrg2 Hwq]
  · isplitr; · iexact HR
    isplitl [HO]; · iexact HO
    isplitl [Hl0 Hl1 Hl2]
    · unfold lent
      isplitl [Hl0]; · iexact Hl0
      isplitl [Hl1]; · iexact Hl1
      iexact Hl2
    isplitl [Hg0 Hg1 Hg2 Hrg0 Hrg1 Hrg2]
    · unfold sendPre
      isplitl [Hg0 Hrg0]; · isplitl [Hrg0] <;> iassumption
      isplitl [Hg1 Hrg1]; · isplitl [Hrg1] <;> iassumption
      isplitl [Hrg2] <;> iassumption
    iexact Hwq
  iintro ⟨HO, ⟨Hcg0, Hcg1, Hcg2⟩, Hwq⟩
  -- the projections, the peers' activations awaited between
  rw [wp_bind]
  iapply (wp_part3 ins c v2 kept ∅) $$ [Hwk Hwv Hwo Hxb Hq Hkk Hv]
  · isplitl [Hwk]; · iexact Hwk
    isplitl [Hwv]; · iexact Hwv
    isplitl [Hwo]; · iexact Hwo
    isplitl [Hxb]; · iexact Hxb
    unfold projs
    isplitl [Hq]; · iexact Hq
    isplitl [Hkk] <;> iassumption
  iintro %v60 ⟨Hwk, Hwv, Hwo, Hxb, Hp⟩
  dsimp only
  rw [wp_bind]
  iapply (wp_part4 ins K c v2 v60 _) $$ [HO Hp Hgr2]
  · isplitr; · iexact HR
    isplitl [Hp]; · iexact Hp
    isplitl [HO] <;> iassumption
  unfold gathered
  iintro %v112 ⟨Hp, HO, Hxg2, Hzg2⟩
  dsimp only
  rw [wp_bind]
  iapply (wp_part5 ins c v2 v112 _) $$ Hp
  iintro %v153 %v0 Hp
  dsimp only
  rw [wp_bind]
  iapply (wp_part6 ins K c v2 v153 v0 _) $$ [HO Hp Hgr0]
  · isplitr; · iexact HR
    isplitl [Hp]; · iexact Hp
    isplitl [HO] <;> iassumption
  unfold gathered
  iintro %v164 ⟨Hp, HO, Hxg0, Hzg0⟩
  dsimp only
  rw [wp_bind]
  iapply (wp_part7 ins K c v2 v164 _) $$ [HO Hp Hgr1]
  · isplitr; · iexact HR
    isplitl [Hp]; · iexact Hp
    isplitl [HO] <;> iassumption
  unfold gathered
  iintro %v216 ⟨Hp, HO, Hxg1, Hzg1⟩
  dsimp only
  rw [wp_bind]
  iapply (wp_part8 ins c v216 _) $$ Hp
  iintro Hp
  ihave Hp := (projs_all ins c) $$ Hp
  -- the heads
  rw [wp_bind]
  iapply (wp_part9 ins c ∅) $$ [Hp Ho]
  · isplitl [Hp] <;> iassumption
  iintro ⟨Hp, Ho⟩
  dsimp only
  rw [wp_bind]
  iapply (wp_part10 ins c _) $$ Ho
  iintro Ho
  dsimp only
  rw [wp_bind]
  iapply (wp_part11 ins c _) $$ Ho
  iintro Ho
  dsimp only
  rw [wp_bind]
  iapply (wp_part12 ins c _ ∅ (fun i hi => heads_cover 0 ∅ i hi)) $$ [Hp Ho Hy]
  · isplitl [Hp]; · iexact Hp
    isplitl [Ho] <;> iassumption
  iintro ⟨Hp, Ho, Hy⟩
  dsimp only
  rw [wp_bind]
  iapply (wp_part13 ins c _) $$ [Hp Ho]
  · isplitl [Hp] <;> iassumption
  iintro ⟨Hp, Ho⟩
  dsimp only
  rw [wp_bind]
  iapply (wp_part14 ins c _) $$ Ho
  iintro Ho
  dsimp only
  rw [wp_bind]
  iapply (wp_part15 ins c _) $$ Ho
  iintro Ho
  rw [wp_bind]
  iapply (wp_part16 ins c v2 _ Zs0 (fun i hi => heads_cover 1 _ i hi)) $$ [Ho Hy Hys0]
  · isplitl [Ho]; · iexact Ho
    isplitl [Hy] <;> iassumption
  iintro %v554 ⟨Ho, Hy, Hys0⟩
  -- the partial results sent
  rw [wp_bind]
  iapply (wp_part17 ins K c v2 v554 Zs1) $$ [HO Hy Hys0 Hs2 Hrs2 Hys1]
  · isplitr; · iexact HR
    isplitl [HO]; · iexact HO
    isplitl [Hy]; · iexact Hy
    isplitl [Hys0]; · iexact Hys0
    isplitl [Hs2 Hrs2]
    · unfold sendPre; isplitl [Hrs2] <;> iassumption
    iexact Hys1
  iintro ⟨HO, Hy, Hcs2, Hys1⟩
  rw [wp_bind]
  iapply (wp_part18 ins K c v2 Zs2) $$ [HO Hy Hys1 Hs1 Hrs1 Hys2 Hs0 Hrs0]
  · isplitr; · iexact HR
    isplitl [HO]; · iexact HO
    isplitl [Hy]; · iexact Hy
    isplitl [Hys1]; · iexact Hys1
    isplitl [Hs1 Hrs1]
    · unfold sendPre; isplitl [Hrs1] <;> iassumption
    isplitl [Hys2]; · iexact Hys2
    unfold sendPre; isplitl [Hrs0] <;> iassumption
  iintro ⟨HO, Hy, Hcs1, Hcs0⟩
  -- the peers' partial results added
  rw [wp_bind]
  iapply (wp_part19 ins K c v2 (rowsOf (ins.Y c) c)) $$ [HO Hsr2 Hsr0]
  · isplitr; · iexact HR
    isplitl [HO]; · iexact HO
    isplitl [Hsr2] <;> iassumption
  unfold scattered
  iintro ⟨HO, ⟨Hrs2, Hzr2⟩, Hrs0, Hzr0⟩
  rw [wp_bind]
  iapply (wp_part20 ins K c _ Zo) $$ [HO Hsr1 Hout Hcg0 Hcg1 Hcg2 Hga0 Hga1 Hga2]
  · isplitr; · iexact HR
    isplitl [HO]; · iexact HO
    isplitl [Hsr1]; · iexact Hsr1
    isplitl [Hout]; · iexact Hout
    unfold sentPre
    isplitl [Hcg0 Hga0]; · isplitl [Hcg0] <;> iassumption
    isplitl [Hcg1 Hga1]; · isplitl [Hcg1] <;> iassumption
    isplitl [Hcg2] <;> iassumption
  unfold scattered
  iintro ⟨HO, ⟨Hrs1, Hzr1⟩, Hout, Hd0, Hd1, Hd2⟩
  -- the last waits
  simp only [Prog.lift, Prog.bind_op, Prog.bind_ret, Prog.pure_eq_ret]
  iapply (wp_wait_sent ins K c true 2 (sS := sndS true 2) rfl rfl) $$ [HO Hcs2 Hsa2]
  · isplitr; · iexact HR
    isplitl [HO]; · iexact HO
    unfold sentPre; isplitl [Hcs2] <;> iassumption
  iintro ⟨HO, Hf2⟩
  iapply (wp_wait_sent ins K c true 1 (sS := sndS true 1) rfl rfl) $$ [HO Hcs1 Hsa1]
  · isplitr; · iexact HR
    isplitl [HO]; · iexact HO
    unfold sentPre; isplitl [Hcs1] <;> iassumption
  iintro ⟨HO, Hf1⟩
  iapply (wp_wait_sent ins K c true 0 (sS := sndS true 0) rfl rfl) $$ [HO Hcs0 Hsa0]
  · isplitr; · iexact HR
    isplitl [HO]; · iexact HO
    unfold sentPre; isplitl [Hcs0] <;> iassumption
  iintro ⟨HO, Hf0⟩
  rw [wp_ret]; imodintro
  iapply Hk
  unfold sent lent
  icases Hd0 with ⟨Hl0, Hzs0⟩
  icases Hd1 with ⟨Hl1, Hzs1⟩
  icases Hd2 with ⟨Hl2, Hzs2⟩
  icases Hf0 with ⟨Hys2, Hzt0⟩
  icases Hf1 with ⟨Hys1, Hzt1⟩
  icases Hf2 with ⟨Hys0, Hzt2⟩
  isplitl [HO]; · iexact HO
  isplitl [Hzb Hzg0 Hzg1 Hzg2 Hzr0 Hzr1 Hzr2 Hzs0 Hzs1 Hzs2 Hzt0 Hzt1 Hzt2]
  · unfold allEnded ended
    isplitl [Hzb]; · iexact Hzb
    isplitl [Hzg0 Hzg1 Hzg2 Hzs0 Hzs1 Hzs2]
    · isplitl [Hzg0 Hzs0]; · isplitl [Hzs0] <;> iassumption
      isplitl [Hzg1 Hzs1]; · isplitl [Hzs1] <;> iassumption
      isplitl [Hzs2] <;> iassumption
    isplitl [Hzr0 Hzt0]; · isplitl [Hzt0] <;> iassumption
    isplitl [Hzr1 Hzt1]; · isplitl [Hzt1] <;> iassumption
    isplitl [Hzt2] <;> iassumption
  isplitr [Hx Hwq Hwo Hwk Hwv Hout]
  · isplitl [Hl0 Hl1 Hl2 Hxb]
    · iexists (ins.x c)
      iapply (Entails.of_eq (shares_eq c (ins.x c)).symm)
      isplitl [Hl0]; · iexact Hl0
      isplitl [Hl1]; · iexact Hl1
      isplitl [Hl2]; · iexact Hl2
      iexact Hxb
    isplitl [Hxg0 Hxg1 Hxg2]
    · iapply (slots_owns c xgM); unfold slot
      isplitl [Hxg0]; · iexists _; iexact Hxg0
      isplitl [Hxg1]; · iexists _; iexact Hxg1
      iexists _; iexact Hxg2
    unfold projs
    icases Hp with ⟨Hq, Hkk, Hv⟩
    isplitl [Hq]; · iapply (filled_end c qM _ _); iexact Hq
    isplitl [Hkk]; · iapply (filled_end c kM _ _); iexact Hkk
    isplitl [Hv]; · iapply (filled_end c vM _ _); iexact Hv
    isplitl [Ho]; · iapply (filled_end c oM _ _); iexact Ho
    isplitl [Hy]; · iapply (filled_end c yM _ _); iexact Hy
    isplitl [Hys0 Hys1 Hys2]
    · iapply (slots_owns c ysM); unfold slot
      isplitl [Hys0]; · iexists _; iexact Hys0
      isplitl [Hys1]; · iexists _; iexact Hys1
      iexists _; iexact Hys2
    iapply (slots_owns c rsM); unfold slot
    isplitl [Hrs0]; · iexists _; iexact Hrs0
    isplitl [Hrs1]; · iexists _; iexact Hrs1
    iexists _; iexact Hrs2
  isplitr [Hout]
  · isplitl [Hx]; · iexact Hx
    isplitl [Hwq]; · iexact Hwq
    isplitl [Hwo]; · iexact Hwo
    isplitl [Hwk] <;> iassumption
  unfold Ins.out sumUp
  iexact Hout

end Cert.KernelIdealAttn
-- ==== Proof.KernelIdeal.Fund.lean ====
/-
  The ghost state of the exchange at launch: the cells of all devices funded at once, their invariants allocated, and each
  duty dealt to the device that pays it.
-/
module

public import proofs.«01_k».proof.Proof.KernelIdeal.Body

@[expose] public section

set_option maxRecDepth 16384

noncomputable section

namespace Cert.KernelIdealAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## Conjunctions over the index types -/

section Fold
variable {P : Type} [URA P]

/-- In either order. -/
theorem fold_swap {I J : Type} [Fintype I] [Fintype J] (Φ : I → J → sProp P) :
    bigSep Finset.univ (fun i => bigSep Finset.univ (Φ i)) = bigSep Finset.univ fun j => bigSep Finset.univ fun i => Φ i j := by
  rw [← bigSep_univ_prod fun p : I × J => Φ p.1 p.2, bigSep_univ_equiv (Equiv.prodComm J I), bigSep_univ_prod]; rfl
theorem fold_three (Φ : Fin 3 → sProp P) : bigSep Finset.univ Φ = iprop(Φ 0 ∗ Φ 1 ∗ Φ 2) :=
  bigSep_univ_eq_bigSepL [0, 1, 2] (by decide) (by decide) Φ
theorem fold_bool (Φ : Bool → sProp P) : bigSep Finset.univ Φ = iprop(Φ false ∗ Φ true) :=
  bigSep_univ_eq_bigSepL [false, true] (by decide) (by decide) Φ
theorem fold_unit (Φ : Unit → sProp P) : bigSep Finset.univ Φ = Φ () :=
  bigSep_univ_eq_bigSepL [()] (by decide) (by decide) Φ
/-- Over the six transfers. -/
theorem fold_xf (Φ : Xf → sProp P) :
    bigSep Finset.univ Φ = iprop((Φ (false, 0) ∗ Φ (false, 1) ∗ Φ (false, 2)) ∗ Φ (true, 0) ∗ Φ (true, 1) ∗ Φ (true, 2)) := by
  rw [bigSep_univ_prod, fold_bool, fold_three, fold_three]
/-- Over both ends of the six. -/
theorem fold_ends (Φ : Bool × Xf → sProp P) :
    bigSep Finset.univ Φ = iprop((bigSep Finset.univ fun x : Xf => Φ (false, x)) ∗ bigSep Finset.univ fun x : Xf => Φ (true, x)) := by
  rw [bigSep_univ_prod, fold_bool]
/-- Over a device's barrier and the ends of its transfers. -/
theorem fold_sum (Φ : CI → sProp P) : bigSep Finset.univ Φ = iprop(Φ (.inl ()) ∗ bigSep Finset.univ fun k : Bool × Xf => Φ (.inr k)) := by
  rw [bigSep_univ_sum, fold_unit]; rfl
/-- Over a device's cells. -/
theorem fold_cells (Φ : CI → sProp P) :
    bigSep Finset.univ Φ = iprop(Φ (.inl ()) ∗ (bigSep Finset.univ fun x : Xf => Φ (.inr (false, x))) ∗ bigSep Finset.univ fun x : Xf => Φ (.inr (true, x))) := by
  rw [fold_sum, fold_ends]

end Fold

/-! ## The cells and the tokens -/

theorem cellAt_injective : Function.Injective fun ck : Dev nD × CI => cellAt ck.1 ck.2 := by
  rintro ⟨c, k⟩ ⟨d, l⟩ h
  have h1 : c = d := congrArg (fun g : GSem nD τ sig => g.1.1) h
  have h2 : k = l := csem_injective (congrArg (fun g : GSem nD τ sig => g.2) h)
  rw [h1, h2]
/-- The exchange's cells. -/
def theCells : Finset (GSem nD τ sig) := Finset.univ.map ⟨_, cellAt_injective⟩

/-- A duty of a device's cells: the barrier has three, an end of a transfer one. -/
abbrev DI : Type := Fin 3 ⊕ (Bool × Xf)
/-- Duty `j` of device `c`'s cells. -/
def dutyAt (cj : Dev nD × DI) : GSem nD τ sig × ℕ × Fin 3 :=
  match cj.2 with
  | .inl d => (cellAt cj.1 (.inl ()), 0, d)
  | .inr k => (cellAt cj.1 (.inr k), 0, 0)
theorem dutyAt_injective : Function.Injective dutyAt := by
  rintro ⟨c, j⟩ ⟨d, l⟩ h
  rcases j with j | j <;> rcases l with l | l
  · have h1 : c = d := congrArg (fun g : GSem nD τ sig × ℕ × Fin 3 => g.1.1.1) h
    have h2 : j = l := congrArg (fun g : GSem nD τ sig × ℕ × Fin 3 => g.2.2) h
    rw [h1, h2]
  · have h2 : (Sum.inl () : CI) = .inr l := csem_injective (congrArg (fun g : GSem nD τ sig × ℕ × Fin 3 => g.1.2) h)
    cases h2
  · have h2 : (Sum.inr j : CI) = .inl () := csem_injective (congrArg (fun g : GSem nD τ sig × ℕ × Fin 3 => g.1.2) h)
    cases h2
  · have h1 : c = d := congrArg (fun g : GSem nD τ sig × ℕ × Fin 3 => g.1.1.1) h
    have h2 : (Sum.inr j : CI) = .inr l := csem_injective (congrArg (fun g : GSem nD τ sig × ℕ × Fin 3 => g.1.2) h)
    cases h2; rw [h1]
/-- All duties. -/
def theDuties : Finset (GSem nD τ sig × ℕ × Fin 3) := Finset.univ.map ⟨dutyAt, dutyAt_injective⟩

/-- The ghost element of the launch. -/
def u₀ : UU := (initOf (Pipeline.cells cfgs cellOf_inj) (Pipeline.launchToks cfgs cellOf_inj), initOf theCells theDuties)

variable (ld : Load F) (K : Dev nD × CI → ℕ) (c : Dev nD)

/-- The tokens of device `c`'s cells. -/
def ownDuties : sProp 𝕄 :=
  iprop((bigSep Finset.univ fun d : Fin 3 => dutyTok ER (barCell c) 0 d)
    ∗ (bigSep Finset.univ fun x : Xf => dutyTok ER (sndCell x.1 x.2 c) 0 0) ∗ bigSep Finset.univ fun x : Xf => dutyTok ER (rcvCell x.1 x.2 c) 0 0)
/-- The tokens of the duties that device `c` pays. -/
def paidDuties : sProp 𝕄 :=
  iprop((bigSep Finset.univ fun d : Fin 3 => dutyTok ER (barCell (src c d)) 0 d)
    ∗ (bigSep Finset.univ fun x : Xf => dutyTok ER (sndCell x.1 x.2 c) 0 0) ∗ bigSep Finset.univ fun x : Xf => dutyTok ER (rcvCell x.1 x.2 (dst c x.2)) 0 0)
/-- Its positions. -/
def places : sProp 𝕄 := bigSep Finset.univ fun k : CI => atPos ER (cellAt c k) 0 ∅ 0
def marks : sProp 𝕄 := bigSep Finset.univ fun k : CI => reached ER (cellAt c k) 0

/-- What the launch deals a device. -/
def dealt : sProp 𝕄 :=
  iprop((bigSep Finset.univ fun k : CI => roundState ER (sched ld) (cellAt c k) 0) ∗ (places (F := F) c ∗ marks (F := F) c) ∗ ownDuties (F := F) c)

omit [FloatOps F] in
theorem fund_cells : BI.own (ER (initOf theCells theDuties)) ⊢ (|==> bigSep Finset.univ (dealt ld) : sProp 𝕄) := by
  have hX (Φ : GSem nD τ sig → sProp 𝕄) : bigSep theCells Φ = bigSep Finset.univ fun c : Dev nD => bigSep Finset.univ fun k : CI => Φ (cellAt c k) := by
    unfold theCells; rw [bigSep_map, bigSep_univ_prod]; rfl
  have hT : bigSep theDuties (fun x => (dutyTok ER x.1 x.2.1 x.2.2 : sProp 𝕄)) = bigSep Finset.univ fun c : Dev nD => ownDuties c := by
    unfold theDuties; rw [bigSep_map, bigSep_univ_prod]
    exact bigSep_congr fun c _ => by unfold ownDuties; rw [bigSep_univ_sum, fold_ends]; rfl
  iintro HX
  imod (Rounds.fund ER (sched ld) theCells theDuties) $$ HX with ⟨Hst, Hr, Hat, Htok⟩
  imodintro
  ihave Hst := (Entails.of_eq (hX fun g => roundState ER (sched ld) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt places marks; simp only [bigSep_sep']
  isplitl [Hst]; · iexact Hst
  isplitl [Hat Hr]
  · isplitl [Hat] <;> iassumption
  iexact Htok

/-! ## The counters -/

omit [FloatOps F] in
/-- The launch's unscoped counter is the barrier's. -/
theorem unscoped_eq : (unscopedSems0 c : sProp 𝕄) = semVal (barCell c) 0 := by
  unfold unscopedSems0; rw [bigSep_eq_bigSepL_of_eq [SemLoc.reg barS] (by decide) (by decide)]; rfl

omit [FloatOps F] in
theorem own_eq : (Pipeline.ownSems0 (Ix := Unit) (Name := ℕ) (U := UU) (Lvl := ℕ) (Val := Elt F) (τ := τ) osem c : sProp 𝕄)
    = bigSep Finset.univ fun k : Bool × Xf => semVal (cellAt c (.inr k)) 0 := by
  unfold Pipeline.ownSems0; rfl

omit [FloatOps F] in
theorem counters_eq :
    iprop(Pipeline.ownSems0 (Ix := Unit) (Name := ℕ) (U := UU) (Lvl := ℕ) (Val := Elt F) (τ := τ) osem c ∗ unscopedSems0 c)
      ⊢ (bigSep Finset.univ fun k : CI => semVal (cellAt c k) 0 : sProp 𝕄) := by
  rw [own_eq, unscoped_eq, fold_sum]
  iintro ⟨H, HB⟩
  isplitl [HB]; · iexact HB
  iexact H

omit [FloatOps F] in
/-- Every counter at zero, as the launch counts them. -/
theorem counters_back : allEnded (F := F) c ⊢ iprop(unscopedSems0 c ∗ Pipeline.ownSems0 (Ix := Unit) (Name := ℕ) (U := UU) (Lvl := ℕ) (Val := Elt F) (τ := τ) osem c) := by
  rw [own_eq, unscoped_eq, fold_ends, ← bigSep_sep', fold_xf]
  unfold allEnded ended
  exact Entails.refl _

/-! ## The invariants, and the duties dealt -/

omit [FloatOps F] in
theorem alloc_cells :
    iprop(Pipeline.ownSems0 (Ix := Unit) (Name := ℕ) (U := UU) (Lvl := ℕ) (Val := Elt F) (τ := τ) osem c ∗ unscopedSems0 c ∗ dealt ld c)
      ⊢ |={Set.univ}=> iprop((bigSep Finset.univ fun k : CI => iprop(∃ κ : ℕ, cellInv ER (sched ld) κ (cellAt c k)))
          ∗ (places (F := F) c ∗ marks (F := F) c) ∗ ownDuties (F := F) c) := by
  have h : iprop((bigSep Finset.univ fun k : CI => semVal (cellAt c k) 0) ∗ bigSep Finset.univ fun k : CI => roundState ER (sched ld) (cellAt c k) 0)
      ⊢ (|={Set.univ}=> bigSep Finset.univ fun k : CI => iprop(∃ κ : ℕ, cellInv ER (sched ld) κ (cellAt c k)) : sProp 𝕄) := by
    rw [← bigSep_sep']
    exact (bigSep_mono fun k _ => (Rounds.body_intro ER (sched ld) (cellAt c k)).trans inv_alloc).trans (bigSep_fupd _ _)
  unfold dealt
  iintro ⟨Ho, Hu, Hst, Hp, Ht⟩
  ihave Hv := (counters_eq (F := F) c) $$ [Ho Hu]
  · isplitl [Ho] <;> iassumption
  imod h $$ [Hv Hst] with Hinv
  · isplitl [Hv] <;> iassumption
  imodintro
  isplitl [Hinv]; · iexact Hinv
  isplitl [Hp]; · iexact Hp
  iexact Ht

omit [FloatOps F] in
/-- The duties go round: a barrier's to the peer that signals it, a landing end's to the device that sends there. -/
theorem deal : (bigSep Finset.univ fun c : Dev nD => ownDuties (F := F) c) ⊢ (bigSep Finset.univ fun c : Dev nD => paidDuties (F := F) c : sProp 𝕄) := by
  unfold ownDuties paidDuties
  rw [bigSep_sep', bigSep_sep', bigSep_sep', bigSep_sep']
  have hb : (bigSep Finset.univ fun c : Dev nD => bigSep Finset.univ fun d : Fin 3 => (dutyTok ER (barCell c) 0 d : sProp 𝕄))
      = bigSep Finset.univ fun c : Dev nD => bigSep Finset.univ fun d : Fin 3 => dutyTok ER (barCell (src c d)) 0 d := by
    rw [fold_swap, fold_swap fun (c : Dev nD) (d : Fin 3) => (dutyTok ER (barCell (src c d)) 0 d : sProp 𝕄)]
    exact bigSep_congr fun d _ => bigSep_univ_equiv (turn d) _
  have hr : (bigSep Finset.univ fun c : Dev nD => bigSep Finset.univ fun x : Xf => (dutyTok ER (rcvCell x.1 x.2 c) 0 0 : sProp 𝕄))
      = bigSep Finset.univ fun c : Dev nD => bigSep Finset.univ fun x : Xf => dutyTok ER (rcvCell x.1 x.2 (dst c x.2)) 0 0 := by
    rw [fold_swap, fold_swap fun (c : Dev nD) (x : Xf) => (dutyTok ER (rcvCell x.1 x.2 (dst c x.2)) 0 0 : sProp 𝕄)]
    exact bigSep_congr fun x _ => bigSep_univ_equiv (turn x.2).symm _
  rw [hb, hr]

/-- What every device may know of the cells. -/
def known : sProp 𝕄 :=
  iprop((bigSep Finset.univ fun ck : Dev nD × CI => cellInv ER (sched ld) (K ck) (cellAt ck.1 ck.2)) ∗ bigSep Finset.univ fun ck : Dev nD × CI => reached ER (cellAt ck.1 ck.2) 0)
omit [FloatOps F] in
instance known_persistent : BI.Persistent (known ld K) := by unfold known; infer_instance

/-- A device's ghost state before its body. -/
def ready : sProp 𝕄 := iprop(∃ K, known ld K ∗ places (F := F) c ∗ paidDuties (F := F) c)

omit [FloatOps F] in
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem gather_all :
    (bigSep Finset.univ fun c : Dev nD => iprop((bigSep Finset.univ fun k : CI => iprop(∃ κ : ℕ, cellInv ER (sched ld) κ (cellAt c k)))
          ∗ (places (F := F) c ∗ marks (F := F) c) ∗ ownDuties (F := F) c) : sProp 𝕄)
      ⊢ bigSep Finset.univ (ready ld) := by
  unfold marks
  rw [bigSep_sep', bigSep_sep', bigSep_sep', ← bigSep_univ_prod (fun ck : Dev nD × CI => iprop(∃ κ : ℕ, cellInv ER (sched ld) κ (cellAt ck.1 ck.2))),
    ← bigSep_univ_prod (fun ck : Dev nD × CI => (reached ER (cellAt ck.1 ck.2) 0 : sProp 𝕄))]
  iintro ⟨HI, ⟨Hp, #HR⟩, Ht⟩
  ihave HK := (BI.bigSep_exists_pi Finset.univ (fun (ck : Dev nD × CI) (κ : ℕ) => (cellInv ER (sched ld) κ (cellAt ck.1 ck.2) : sProp 𝕄))) $$ HI
  icases HK with ⟨%K, #HI⟩
  ihave Ht := (deal (F := F)) $$ Ht
  have h (c : Dev nD) : iprop(known ld K ∗ (places (F := F) c ∗ paidDuties (F := F) c)) ⊢ (ready ld c : sProp 𝕄) := by
    unfold ready; iintro H; iexists K; iexact H
  iapply (spread (R := known ld K) fun c _ => h c)
  isplitr
  · unfold known; isplitl; · iexact HI
    iexact HR
  · rw [bigSep_sep']
    isplitl [Hp]; · iexact Hp
    iexact Ht

omit [FloatOps F] in
/-- The launch's global step. -/
theorem glob : (bigSep Finset.univ fun c => iprop(Pipeline.ownSems0 (Ix := Unit) (Name := ℕ) (U := UU) (Lvl := ℕ) (Val := Elt F) (τ := τ) osem c ∗ unscopedSems0 c ∗ dealt ld c) : sProp 𝕄)
    ⊢ |={Set.univ}=> bigSep Finset.univ (ready ld) :=
  ((bigSep_mono fun c _ => alloc_cells ld c).trans (bigSep_fupd _ _)).trans (BI.fupd_mono (gather_all ld))

/-! ## The launch credit -/

theorem cell_eq_iff (c d : Dev nD) (k l : CI) : cellAt c k = cellAt d l ↔ c = d ∧ k = l :=
  ⟨fun h => Prod.ext_iff.mp (cellAt_injective h : (c, k) = (d, l)), fun h => by rw [h.1, h.2]⟩

theorem owed_at (c d : Dev nD) (k l : CI) (n : ℕ) :
    (tallyAt (cellAt d l) () n : CellTallies nD τ sig Unit) (cellAt c k) () = if c = d ∧ k = l then n else 0 := by
  rw [tallyAt_apply]
  exact if_congr ((and_iff_left rfl).trans (cell_eq_iff c d k l)) rfl rfl

/-- What device `d` owes device `c`'s landing end: a block, if `c` is where it sends in that slot. -/
theorem owed_rcv (d c : Dev nD) (b : Bool) (r : Fin 3) : O₀ d (rcvCell b r c) () = if d = src c r then N else 0 := by
  have hX (b' : Bool) (r' : Fin 3) : owedX b' r' d (rcvCell b r c) () = if c = dst d r' ∧ (b, r) = (b', r') then N else 0 :=
    (owed_at c (dst d r') (.inr (true, b, r)) (.inr (true, b', r')) N).trans (if_congr (and_congr_right fun _ => ⟨fun h => by cases h; rfl, fun h => by cases h; rfl⟩) rfl rfl)
  have hB (r' : Fin 3) : owedB r' d (rcvCell b r c) () = 0 :=
    (owed_at c (src d r') (.inr (true, b, r)) (.inl ()) 1).trans (if_neg fun h => by cases h.2)
  have hd : d = src c r ↔ c = dst d r := ⟨fun h => by rw [h, dst_src], fun h => by rw [h, src_dst]⟩
  rw [if_congr hd rfl rfl]
  unfold O₀ Ogath Oscat
  simp only [Pi.add_apply, Finsupp.add_apply, hX, hB, Pi.zero_apply, Finsupp.zero_apply]
  cases b <;> fin_cases r <;> simp

/-- What device `d` owes device `c`'s barrier. -/
theorem owed_bar (d c : Dev nD) : O₀ d (barCell c) () = (if d = dst c 2 then 1 else 0) + (if d = dst c 1 then 1 else 0) + (if d = dst c 0 then 1 else 0) := by
  have hX (b' : Bool) (r' : Fin 3) : owedX b' r' d (barCell c) () = 0 :=
    (owed_at c (dst d r') (.inl ()) (.inr (true, b', r')) N).trans (if_neg fun h => by cases h.2)
  have hB (r' : Fin 3) : owedB r' d (barCell c) () = if d = dst c r' then 1 else 0 :=
    (owed_at c (src d r') (.inl ()) (.inl ()) 1).trans (if_congr ⟨fun h => by rw [h.1, dst_src], fun h => ⟨by rw [h, src_dst], rfl⟩⟩ rfl rfl)
  unfold O₀ Ogath Oscat
  simp only [Pi.add_apply, Finsupp.add_apply, hX, hB, Pi.zero_apply, Finsupp.zero_apply, Nat.zero_add]

theorem launch_rcv (b : Bool) (r : Fin 3) :
    tallyOn (rcvCell b r c) (launchCredit (Pipeline.owing O₀) 0 (rcvCell b r c)) = (tallyAt (rcvCell b r c) () N : CellTallies nD τ sig Unit) := by
  unfold tallyAt; refine congrArg _ (Finsupp.ext fun u => ?_); cases u
  rw [Pipeline.launchCredit_owing, Finsupp.single_eq_same, Finset.sum_congr rfl fun d _ => owed_rcv d c b r, Finset.sum_ite_eq' Finset.univ (src c r) fun _ => N,
    if_pos (Finset.mem_univ _)]
theorem launch_bar :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (dst c 2) fun _ => 1, Finset.sum_ite_eq' Finset.univ (dst c 1) fun _ => 1, Finset.sum_ite_eq' Finset.univ (dst c 0) fun _ => 1,
    if_pos (Finset.mem_univ _), if_pos (Finset.mem_univ _), if_pos (Finset.mem_univ _)]

omit [FloatOps F] in
/-- The credit of a device's barrier and of its landing ends. -/
theorem credits : (Pipeline.launchCred O₀ c : sProp 𝕄)
    ⊢ iprop(cred (tallyAt (barCell c) () 3) ∗ bigSep Finset.univ fun x : Xf => cred (tallyAt (rcvCell x.1 x.2 c) () N)) := by
  have key (A B : sProp 𝕄) (C D : Xf → sProp 𝕄) (E : sProp 𝕄) (hA : A = E) (hC : ∀ x, C x = D x) :
      iprop(A ∗ B ∗ bigSep Finset.univ C) ⊢ (iprop(E ∗ bigSep Finset.univ D) : sProp 𝕄) := by
    rw [hA, funext hC]; iintro ⟨HA, -, HC⟩; isplitl [HA] <;> iassumption
  unfold Pipeline.launchCred
  refine (bigSep_subset (Finset.subset_univ (Finset.univ.map ⟨csem, csem_injective⟩))).trans ?_
  rw [bigSep_map, fold_cells]
  have hb := congrArg (fun t => (cred t : sProp 𝕄)) (launch_bar c)
  have hr (x : Xf) := congrArg (fun t => (cred t : sProp 𝕄)) (launch_rcv c x.1 x.2)
  exact key _ _ _ _ _ hb hr

omit [FloatOps F] in
/-- A device's credits, positions and duties are the rights its body starts from. -/
theorem rights_intro : iprop((cred (tallyAt (barCell c) () 3) ∗ bigSep Finset.univ fun x : Xf => cred (tallyAt (rcvCell x.1 x.2 c) () N))
      ∗ places (F := F) c ∗ paidDuties (F := F) c) ⊢ (rights (F := F) c : sProp 𝕄) := by
  have h : iprop(((bigSep Finset.univ fun x : Xf => dutyTok ER (sndCell x.1 x.2 c) 0 0) ∗ bigSep Finset.univ fun x : Xf => dutyTok ER (rcvCell x.1 x.2 (dst c x.2)) 0 0)
        ∗ ((bigSep Finset.univ fun x : Xf => cred (tallyAt (rcvCell x.1 x.2 c) () N)) ∗ bigSep Finset.univ fun x : Xf => atPos ER (rcvCell x.1 x.2 c) 0 ∅ 0)
        ∗ bigSep Finset.univ fun x : Xf => atPos ER (sndCell x.1 x.2 c) 0 ∅ 0)
      ⊢ (iprop((xferPre (F := F) c false 0 ∗ xferPre (F := F) c false 1 ∗ xferPre (F := F) c false 2) ∗ (xferPre (F := F) c true 0 ∗ xferPre (F := F) c true 1 ∗ xferPre (F := F) c true 2)) : sProp 𝕄) := by
    rw [← bigSep_sep', ← bigSep_sep', ← bigSep_sep', ← bigSep_sep', fold_xf]
    unfold xferPre recvPre
    exact Entails.refl _
  unfold rights barPre paidDuties places
  rw [fold_cells, fold_three]
  iintro ⟨⟨Hcb, Hcr⟩, ⟨Hab, Has, Har⟩, Htb, Hts, Htr⟩
  isplitl [Hcb Hab Htb]
  · isplitl [Htb]; · iexact Htb
    isplitl [Hcb]; · iexact Hcb
    iexact Hab
  iapply h
  isplitl [Hts Htr]; · isplitl [Hts] <;> iassumption
  isplitl [Hcr Har]
  · isplitl [Hcr]; · iexact Hcr
    iexact Har
  iexact Has

end Cert.KernelIdealAttn
-- ==== Proof.KernelIdeal.Launch.lean ====
/-
  The launch: the pipeline at its one point runs the body, and every execution ends with the arguments as they were, each
  device's result holding what the body computes, and every counter at zero.
-/
module

public import proofs.«01_k».proof.Proof.KernelIdeal.Fund
public import proofs.«01_k».proof.Proof.Gen.KernelIdeal.Frame
public import Idealize.ShloMosaic.Lib.Pipeline.CollectiveSegs

@[expose] public section

set_option maxRecDepth 16384

noncomputable section

namespace Cert.KernelIdealAttn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The inputs, as the arguments hold them. -/
def insOf : Ins F where
  x c := m ((c : Thread nD τ).loc main_arg0)
  wq c := m ((c : Thread nD τ).loc main_arg1)
  wk c := m ((c : Thread nD τ).loc main_arg2)
  wv c := m ((c : Thread nD τ).loc main_arg3)
  wo c := m ((c : Thread nD τ).loc main_arg4)

/-- What the body starts from, beside the windows. -/
def Φ₀ : sProp 𝕄 := iprop((∃ K, records (insOf m).load K ∗ rights (F := F) c) ∗ scratch (F := F) c)
/-- What it ends with. -/
def Φ₁ : sProp 𝕄 := iprop(allEnded (F := F) c ∗ scratch (F := F) c)

/-- The pipeline's data: the arrays as launched, the windows after the body. -/
def dats (_ : Fin 1) (c : Dev nD) : Dat τ (Elt F) Unit ℕ UU ℕ cfg0 c where
  A w := m ((cfg0.win w).arr.view.loc (c : Thread nD τ))
  after w _ := match w with
    | ⟨0, _⟩ => (insOf m).x c
    | ⟨1, _⟩ => (insOf m).wq c
    | ⟨2, _⟩ => (insOf m).wo c
    | ⟨3, _⟩ => (insOf m).wk c
    | ⟨4, _⟩ => (insOf m).wv c
    | ⟨5, _⟩ => (insOf m).out c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The windows: each block is its whole array -/

omit [FloatOps F] in
theorem read_x (f : S2x128x512.Idx → Elt F .bf16) : (win0_0.blk t0_0).view.read (Elt F) f = f :=
  funext fun _ => congrArg f (funext fun a => Fin.ext (by fin_cases a <;> exact (Nat.zero_add _).trans (Nat.one_mul _)))
omit [FloatOps F] in
theorem read_wq (f : S512x512.Idx → Elt F .bf16) : (win0_1.blk t0_0).view.read (Elt F) f = f :=
  funext fun _ => congrArg f (funext fun a => Fin.ext (by fin_cases a <;> exact (Nat.zero_add _).trans (Nat.one_mul _)))
omit [FloatOps F] in
theorem read_wo (f : S512x512.Idx → Elt F .bf16) : (win0_2.blk t0_0).view.read (Elt F) f = f :=
  funext fun _ => congrArg f (funext fun a => Fin.ext (by fin_cases a <;> exact (Nat.zero_add _).trans (Nat.one_mul _)))
omit [FloatOps F] in
theorem read_wk (f : S512x512.Idx → Elt F .bf16) : (win0_3.blk t0_0).view.read (Elt F) f = f :=
  funext fun _ => congrArg f (funext fun a => Fin.ext (by fin_cases a <;> exact (Nat.zero_add _).trans (Nat.one_mul _)))
omit [FloatOps F] in
theorem read_wv (f : S512x512.Idx → Elt F .bf16) : (win0_4.blk t0_0).view.read (Elt F) f = f :=
  funext fun _ => congrArg f (funext fun a => Fin.ext (by fin_cases a <;> exact (Nat.zero_add _).trans (Nat.one_mul _)))
omit [FloatOps F] in
theorem read_out (f : S2x128x512.Idx → Elt F .f32) : (win0_5.blk t0_0).view.read (Elt F) f = f :=
  funext fun _ => congrArg f (funext fun a => Fin.ext (by fin_cases a <;> exact (Nat.zero_add _).trans (Nat.one_mul _)))

theorem before_x (d) : (dats m 0 c).before (0 : Fin 6) t0_0 d = (insOf m).x c := by
  unfold Dat.before; exact (if_pos rfl).trans (read_x (m ((c : Thread nD τ).loc main_arg0)))
theorem before_wq (d) : (dats m 0 c).before (1 : Fin 6) t0_0 d = (insOf m).wq c := by
  unfold Dat.before; exact (if_pos rfl).trans (read_wq (m ((c : Thread nD τ).loc main_arg1)))
theorem before_wo (d) : (dats m 0 c).before (2 : Fin 6) t0_0 d = (insOf m).wo c := by
  unfold Dat.before; exact (if_pos rfl).trans (read_wo (m ((c : Thread nD τ).loc main_arg4)))
theorem before_wk (d) : (dats m 0 c).before (3 : Fin 6) t0_0 d = (insOf m).wk c := by
  unfold Dat.before; exact (if_pos rfl).trans (read_wk (m ((c : Thread nD τ).loc main_arg2)))
theorem before_wv (d) : (dats m 0 c).before (4 : Fin 6) t0_0 d = (insOf m).wv c := by
  unfold Dat.before; exact (if_pos rfl).trans (read_wv (m ((c : Thread nD τ).loc main_arg3)))

/-! ## The body -/

/-- The windows before the body. -/
def windowsIn : sProp 𝕄 :=
  iprop((∃ d, owns (c : Thread nD τ) xM fullShare ((dats m 0 c).before (0 : Fin 6) t0_0 d)) ∗ (∃ d, owns (c : Thread nD τ) wqM fullShare ((dats m 0 c).before (1 : Fin 6) t0_0 d))
    ∗ (∃ d, owns (c : Thread nD τ) woM fullShare ((dats m 0 c).before (2 : Fin 6) t0_0 d)) ∗ (∃ d, owns (c : Thread nD τ) wkM fullShare ((dats m 0 c).before (3 : Fin 6) t0_0 d))
    ∗ (∃ d, owns (c : Thread nD τ) wvM fullShare ((dats m 0 c).before (4 : Fin 6) t0_0 d)) ∗ (∃ d, owns (c : Thread nD τ) outM fullShare ((dats m 0 c).before (5 : Fin 6) t0_0 d)))
/-- And after. -/
def windowsOut : sProp 𝕄 :=
  iprop(owns (c : Thread nD τ) xM fullShare ((insOf m).x c) ∗ owns (c : Thread nD τ) wqM fullShare ((insOf m).wq c) ∗ owns (c : Thread nD τ) woM fullShare ((insOf m).wo c)
    ∗ owns (c : Thread nD τ) wkM fullShare ((insOf m).wk c) ∗ owns (c : Thread nD τ) wvM fullShare ((insOf m).wv c) ∗ owns (c : Thread nD τ) outM fullShare ((insOf m).out c))

theorem windows_open : windowsIn m c ⊢ (iprop(inputs (insOf m) c ∗ any (F := F) c outM) : sProp 𝕄) := by
  unfold windowsIn inputs any
  iintro ⟨⟨%d0, H0⟩, ⟨%d1, H1⟩, ⟨%d2, H2⟩, ⟨%d3, H3⟩, ⟨%d4, H4⟩, ⟨%d5, H5⟩⟩
  rw [before_x, before_wq, before_wo, before_wk, before_wv]
  isplitr [H5]
  · isplitl [H0]; · iexact H0
    isplitl [H1]; · iexact H1
    isplitl [H2]; · iexact H2
    isplitl [H3] <;> iassumption
  iexists _; iexact H5

/-- The pipeline's obligation on the body. -/
theorem body_obligation : BodyObligation (dats (F := F) m 0 c) (defs₀ (F := F)) 𝒱₀ () Set.univ := fun t => by
  rw [fin_N0 t, bigSep_W0, bigSep_W0]
  show iprop(Φ₀ m c ∗ (dats m 0 c).owesAt () t0_0.castSucc ∗ windowsIn m c)
    ⊢ wp frame (wpE (defs₀ (F := F)) 𝒱₀ (c : Thread nD τ) none) Set.univ (atBufs (cc0_body (F := F)))
      (fun _ => iprop(Φ₁ c ∗ (dats m 0 c).owesAt () t0_0.succ ∗ windowsOut m c))
  unfold Φ₀ Φ₁ Dat.owesAt Pipeline.owesWithin
  rw [show (dats m 0 c).owed t0_0.castSucc = O₀ c from rfl, show (dats m 0 c).owed t0_0.succ = 0 from rfl]
  iintro ⟨⟨⟨%K, HR, Hr⟩, Hs⟩, ⟨%W, %hW, HO⟩, Hw⟩
  ihave Hw := (windows_open m c) $$ Hw
  icases Hw with ⟨Hi, Hout⟩
  iapply (wp_body (insOf m) K c) $$ [HR HO Hr Hs Hi Hout]
  · isplitl [HR]; · iexact HR
    isplitl [HO]; · unfold owing; iexists W; iexact HO
    isplitl [Hr]; · iexact Hr
    isplitl [Hs]; · iexact Hs
    isplitl [Hi] <;> iassumption
  unfold owing inputs windowsOut
  iintro ⟨⟨%W', HO⟩, He, Hs, ⟨H0, H1, H2, H3, H4⟩, H5⟩
  isplitl [He Hs]; · isplitl [He] <;> iassumption
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4] <;> iassumption

/-! ## The launch theorem's conditions -/

theorem share_full (w : Fin cfg0.W) : (dats m 0 c).share w = fullShare := by unfold Dat.share; split <;> rfl

omit [FloatOps F] in
/-- The scratch memory, as the launch has it. -/
theorem scratch_eq : (Pipeline.scopedRest (Ix := Unit) (Name := ℕ) (U := UU) (Lvl := ℕ) (Val := Elt F) spec0 c : sProp 𝕄) = scratch (F := F) c := by
  rw [scopedRest0_eq]; unfold scratch any
  simp only [owns_whole]
  rfl

/-- Before the pipeline. -/
def start : sProp 𝕄 := iprop(∃ K, records (insOf m).load K ∗ rights (F := F) c)

theorem start_intro :
    iprop(Pipeline.unscopedRestP Pipeline.Prefetch.none cfg0.spec c (fun b => m ((c : Thread nD τ).loc b)) ∗ levAts L lv
        ∗ Pipeline.launchCred O₀ c ∗ prngReg c (ρ c) ∗ ready (insOf m).load c)
      ⊢ |={Set.univ}=> iprop(start m c ∗ emp) := by
  unfold ready known
  iintro ⟨-, Hlev, Hcr, -, ⟨%K, ⟨HI, HM⟩, Hp, Hd⟩⟩
  ihave Hc := (credits (F := F) c) $$ Hcr
  imodintro
  unfold start
  isplitl
  · iexists K
    isplitl [HI HM Hlev]
    · unfold records
      isplitl [HI]; · iexact HI
      isplitl [HM]; · iexact HM
      iexact Hlev
    iapply (rights_intro c)
    isplitl [Hc]; · iexact Hc
    isplitl [Hp] <;> iassumption
  · iempintro

theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀ start
  iintro ⟨Hs, -, Hr⟩
  isplitl [Hs]; · iexact Hs
  iexact Hr

theorem leave :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq]
  unfold Φ₁
  iintro ⟨He, Hs⟩
  ihave He := (counters_back (F := F) c) $$ He
  icases He with ⟨H1, H2⟩
  isplitl [H1]; · iexact H1
  isplitl [H2] <;> iassumption

theorem waits : (levAts L lv : sProp 𝕄) ⊢ Pipeline.cellsWaits cfgs (dats m) () 0 c :=
  Pipeline.cellsWaits_intro cfgs (dats m) () 0 c fun w s t =>
    mayWait_of_above c _ 0 (by fin_cases w <;> fin_cases s <;> decide) (by
      rcases t with ⟨_ | _, ht⟩
      · exact above_O₀ c
      · exact above_zero 0)

/-! ## The run -/

/-- What window `w`'s array holds at the end. -/
def finalA (w : Fin cfg0.W) : Buf (Elt F) ((cfg0.win w).arr.view.loc (c : Thread nD τ)) := (dats m 0 c).arrAt w cfg0.N

/-- Every fair execution ends, each window's array holding what the pipeline leaves and every counter at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := dealt (insOf m).load) (G' := ready (insOf m).load) (u₀ := u₀)
    (hu₀ := by
      unfold u₀
      iintro Hu
      ihave H := (ownU_pair _ _) $$ Hu
      icases H with ⟨HP, HX⟩
      imod (fund_cells (insOf m).load) $$ HX with HG
      imodintro
      isplitl [HP] <;> iassumption)
    (hglob := glob (insOf m).load)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds what it held. -/
theorem final_in (w : Fin cfg0.W) (h : (cfg0.win w).isOut = false) : finalA m c w = m ((cfg0.win w).arr.view.loc (c : Thread nD τ)) :=
  (dats m 0 c).arrAt_in w h _

omit [FloatOps F] in
/-- The result's one block covers its array. -/
theorem out_cover (i : S2x128x512.Idx) : ∃ t : Fin cfg0.N, (cfg0.win (5 : Fin 6)).flush t = true ∧ i ∈ ((cfg0.win (5 : Fin 6)).blk t).view.set := by
  refine ⟨t0_0, rfl, ?_⟩
  show i ∈ ((View.whole main_v1).slice (win0_5.rect t0_0)).set
  rw [View.set_slice_whole, Rect.mem_set_unit]
  intro a
  fin_cases a
  · exact ⟨Nat.zero_le _, lt_of_lt_of_eq (i 0).isLt (Nat.zero_add _).symm⟩
  · exact ⟨Nat.zero_le _, lt_of_lt_of_eq (i 1).isLt (Nat.zero_add _).symm⟩
  · exact ⟨Nat.zero_le _, lt_of_lt_of_eq (i 2).isLt (Nat.zero_add _).symm⟩

/-- The result's array holds what the body computes. -/
theorem final_out : finalA m c (5 : Fin 6) = (insOf m).out c :=
  (dats m 0 c).arrAt_eq_of_cover (5 : Fin 6) ((insOf m).out c) (fun t _ => by rw [fin_N0 t]; exact (read_out _).symm) out_cover

/-- The run: the arguments as they were, the result computed, the counters at zero. -/
theorem run_values : θ_run defs (onTc (τ := τ) (main (F := F))) ⟨m, fun _ => 0, ρ⟩ (fun r =>
    (∀ c : Dev nD, r.2.mem ((c : Thread nD τ).loc main_v1) = (insOf m).out c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c (5 : Fin 6)).trans (final_out m c), (h.1 c (0 : Fin 6)).trans (final_in m c (0 : Fin 6) rfl),
    (h.1 c (1 : Fin 6)).trans (final_in m c (1 : Fin 6) rfl), (h.1 c (3 : Fin 6)).trans (final_in m c (3 : Fin 6) rfl),
    (h.1 c (4 : Fin 6)).trans (final_in m c (4 : Fin 6) rfl), (h.1 c (2 : Fin 6)).trans (final_in m c (2 : Fin 6) rfl)⟩, h.2⟩) (run_main m ρ)

end Cert.KernelIdealAttn
-- ==== Proof.Frames.lean ====
/-
  The frames: each program ends, its arguments as they were and every counter at zero.
-/
module

public import proofs.«01_k».proof.Defs
public import proofs.«01_k».proof.Proof.Kernel.Launch
public import proofs.«01_k».proof.Proof.KernelIdeal.Launch
public import proofs.«01_k».proof.Proof.Gen.ReferenceIdeal.Run
public import Idealize.ShloMosaic.Lib.Quiescent

@[expose] public section

noncomputable section

namespace Cert.Proof

open Idealize.ShloMosaic Idealize.SL.Sem

/-- The kernel at bits. -/
theorem frame_kernel : Cert.quiescent_Kernel := fun m ρ _ =>
  (θ_run Cert.Kernel.defs _ _).mono (fun _ h => ⟨fun c => (h.1 c).2, h.2⟩) (Cert.KernelAttn.run_values m ρ)

/-- The kernel over the reals. -/
theorem frame_ideal : Cert.quiescent_KernelIdeal := fun m ρ _ =>
  (θ_run Cert.KernelIdeal.defs _ _).mono (fun _ h => ⟨fun c => (h.1 c).2, h.2⟩) (Cert.KernelIdealAttn.run_values m ρ)

/-- The reference over the reals: it declares no counter. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

end Cert.Proof

end
-- ==== Proof.Softmax.lean ====
/-
  A weighted mean over the extended reals: shifting every score by the same real, and starting both sums from nothing
  scaled, changes no quotient of the weighted sum by the sum of the weights.
-/
module

public import Idealize.ShloMosaic.PureOps.Ideal.Laws
public import Idealize.ShloMosaic.PureOps.Reduce
public import Mathlib.Data.EReal.Operations
public import Mathlib.Data.EReal.Inv

@[expose] public section

noncomputable section

namespace Cert.Attention

open Idealize.ShloMosaic
open scoped BigOperators

/-- An extended real that is a real. -/
def IsReal (x : EReal) : Prop := ∃ r : ℝ, x = r

/-- A product of reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A sum of reals is real. -/
theorem IsReal.sum {ι : Type} (s : Finset ι) (f : ι → EReal) (h : ∀ i ∈ s, IsReal (f i)) : IsReal (∑ i ∈ s, f i) := by
  classical
  induction s using Finset.induction with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- The larger of two reals is real. -/
theorem IsReal.max {x y : EReal} (hx : IsReal x) (hy : IsReal y) : IsReal (max x y) := by
  rcases max_choice x y with h | h <;> rw [h] <;> assumption

/-- The largest of finitely many reals, and of nothing less: it is −∞ or real, and real if there is one at all. -/
theorem fold_max_real {ι : Type} (s : Finset ι) (f : ι → EReal) (h : ∀ i ∈ s, IsReal (f i)) :
    (s = ∅ ∧ s.fold max ⊥ f = ⊥) ∨ IsReal (s.fold max ⊥ f) := by
  classical
  induction s using Finset.induction with
  | empty => exact Or.inl ⟨rfl, rfl⟩
  | insert a s ha ih =>
    right
    rw [Finset.fold_insert ha]
    have hx := h a (Finset.mem_insert_self a s)
    rcases ih fun i hi => h i (Finset.mem_insert_of_mem hi) with ⟨_, e⟩ | hy
    · rw [e]; simpa using hx
    · exact hx.max hy

/-- A real factor that is not negative comes out of a sum of extended reals. -/
theorem sum_mul_real {ι : Type} (s : Finset ι) (f : ι → EReal) (c : ℝ) (hc : 0 ≤ c) : ∑ i ∈ s, f i * (c : EReal) = (∑ i ∈ s, f i) * (c : EReal) := by
  classical
  induction s using Finset.induction with
  | empty => simp
  | insert a s ha ih =>
    rw [Finset.sum_insert ha, Finset.sum_insert ha, ih, EReal.right_distrib_of_nonneg_of_ne_top (EReal.coe_nonneg.2 hc) (EReal.coe_ne_top c)]

/-- A sum of reals, summed as extended reals. -/
theorem sum_coe {ι : Type} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- A quotient of two multiples by one positive real is the quotient. -/
theorem div_scaled (x : EReal) (d c : ℝ) (hd : 0 < d) (hc : 0 < c) : Ideal.div (x * (c : EReal)) ((d : EReal) * (c : EReal)) = Ideal.div x (d : EReal) := by
  have hdc : (d : EReal) * (c : EReal) = ((d * c : ℝ) : EReal) := (EReal.coe_mul d c).symm
  have h1 : ((d * c : ℝ) : EReal) ≠ 0 := by exact_mod_cast (mul_pos hd hc).ne'
  have h2 : (d : EReal) ≠ 0 := by exact_mod_cast hd.ne'
  unfold Ideal.div
  rw [hdc, if_neg h1, if_neg h2, ← EReal.coe_inv, ← EReal.coe_inv, mul_assoc, ← EReal.coe_mul]
  congr 2
  field_simp

/-- The weights: exponentials of real scores, shifted by a real, are those unshifted times one positive real. -/
theorem exp_shift (s M : ℝ) : Ideal.exp ((s : EReal) - (M : EReal)) = Ideal.exp (s : EReal) * ((Real.exp (-M) : ℝ) : EReal) := by
  rw [← EReal.coe_sub, Ideal.exp_coe, Ideal.exp_coe, ← EReal.coe_mul, ← Real.exp_add, sub_eq_add_neg]

/-- **The weighted mean**, accumulated from zero after one shift by the real `M` with the old maximum at −∞, is the plain one. -/
theorem mean_shift {n : ℕ} (hn : 0 < n) (s v : Fin n → EReal) (M : EReal) (hs : ∀ j, IsReal (s j)) (hM : IsReal M) :
    Ideal.div (0 * Ideal.exp (⊥ - M) + ∑ j, v j * Ideal.exp (s j - M)) (0 * Ideal.exp (⊥ - M) + ∑ j, Ideal.exp (s j - M))
      = Ideal.div (∑ j, Ideal.exp (s j) * v j) (∑ j, Ideal.exp (s j)) := by
  obtain ⟨m, rfl⟩ := hM
  choose r hr using hs
  obtain rfl : s = fun j => (r j : EReal) := funext hr
  haveI : Nonempty (Fin n) := ⟨⟨0, hn⟩⟩
  have hN : ∑ j, v j * Ideal.exp ((r j : EReal) - (m : EReal)) = (∑ j, Ideal.exp (r j : EReal) * v j) * ((Real.exp (-m) : ℝ) : EReal) := by
    rw [← sum_mul_real _ _ _ (Real.exp_pos _).le]
    exact Finset.sum_congr rfl fun j _ => by rw [exp_shift, ← mul_assoc, mul_comm (v j)]
  have hD : ∑ j, Ideal.exp ((r j : EReal) - (m : EReal)) = (∑ j, Ideal.exp (r j : EReal)) * ((Real.exp (-m) : ℝ) : EReal) := by
    rw [← sum_mul_real _ _ _ (Real.exp_pos _).le]
    exact Finset.sum_congr rfl fun j _ => exp_shift _ _
  have hS : ∑ j, Ideal.exp (r j : EReal) = ((∑ j, Real.exp (r j) : ℝ) : EReal) := by
    rw [← sum_coe]; rfl
  rw [zero_mul, zero_add, zero_add, hN, hD, hS]
  exact div_scaled _ _ _ (Finset.sum_pos (fun j _ => Real.exp_pos _) Finset.univ_nonempty) (Real.exp_pos _)

/-- A maximum over the elements that reduce to an index is real where they all are and there is one. -/
theorem reduce_max_real {s t u : Shape} {axes : List (Fin s.rank)} (x : s.Idx → EReal) (init : u.Idx → EReal) (h : s.ReducesTo axes t) (hu : 0 < u.numel)
    (j : t.Idx) (hx : ∀ i, IsReal (x i)) (hi : init (Shape.Idx.first hu) = ⊥) (i : s.Idx) (hj : h.drop i = j) : IsReal (Host.reduce max x init h hu j) := by
  rw [Host.reduce_eq_fold, hi]
  rcases fold_max_real (Finset.univ.filter fun i => h.drop i = j) x fun i _ => hx i with ⟨e, _⟩ | h'
  · exact absurd (e ▸ Finset.mem_filter.2 ⟨Finset.mem_univ i, hj⟩ : i ∈ (∅ : Finset s.Idx)) (Finset.notMem_empty i)
  · exact h'

end Cert.Attention

end
-- ==== Proof.Whole.lean ====
/-
  Attention on whole arrays, element by element over the extended reals: projections, scores, each head's weighted mean of
  the values, and the output projection. Both programs are shown to compute this.
-/
module

public import proofs.«01_k».proof.Proof.Softmax
public import Idealize.ShloMosaic.Lib.Pointwise

@[expose] public section

noncomputable section

namespace Cert.Attention

open Idealize.ShloMosaic
open scoped BigOperators

/-- The shape of the activations and of the result. -/
abbrev SX : Shape := ⟨3, ![2, 512, 512]⟩
/-- The shape of the three input projections. -/
abbrev SW : Shape := ⟨2, ![512, 2048]⟩
/-- The shape of the output projection. -/
abbrev SO : Shape := ⟨2, ![2048, 512]⟩

variable (X : SX.Idx → EReal) (WQ WK WV : SW.Idx → EReal) (WO : SO.Idx → EReal)

/-- Column `d` of head `g`. -/
def col (g : Fin 32) (d : Fin 64) : Fin 2048 := ⟨64 * g.val + d.val, by omega⟩

/-- An element of a projection. -/
def prj (W : SW.Idx → EReal) (b : Fin 2) (i : Fin 512) (e : Fin 2048) : EReal := ∑ k : Fin 512, X (ix3 b i k) * W (ix2 k e)

/-- The score of row `j` for row `i` in head `g`: the product of query and key, times an eighth. -/
def scr (b : Fin 2) (g : Fin 32) (i j : Fin 512) : EReal :=
  (∑ d : Fin 64, prj X WQ b i (col g d) * prj X WK b j (col g d)) * Ideal.ofBits .f32 0x3E000000#32

/-- The mean of the values, weighted by the scores' exponentials. -/
def att (b : Fin 2) (g : Fin 32) (i : Fin 512) (d : Fin 64) : EReal :=
  Ideal.div (∑ j : Fin 512, Ideal.exp (scr X WQ WK b g i j) * prj X WV b j (col g d)) (∑ j : Fin 512, Ideal.exp (scr X WQ WK b g i j))

/-- The head of a column. -/
def headOf (e : Fin 2048) : Fin 32 := ⟨e.val / 64, by omega⟩
/-- Its place in the head. -/
def inHead (e : Fin 2048) : Fin 64 := ⟨e.val % 64, by omega⟩

/-- An element of the result. -/
def res (b : Fin 2) (i o : Fin 512) : EReal :=
  ∑ e : Fin 2048, att X WQ WK WV b (headOf e) i (inHead e) * WO (ix2 e o)

/-- An eighth is real. -/
theorem eighth_real : IsReal (Ideal.ofBits .f32 0x3E000000#32) := ⟨_, by simp [Ideal.ofBits, Ideal.ieee]; rfl⟩

/-- Finite activations and weights give a finite projection. -/
theorem prj_real (W : SW.Idx → EReal) (hX : ∀ i, IsReal (X i)) (hW : ∀ i, IsReal (W i)) (b : Fin 2) (i : Fin 512) (e : Fin 2048) : IsReal (prj X W b i e) :=
  IsReal.sum _ _ fun _ _ => (hX _).mul (hW _)

/-- And finite scores. -/
theorem scr_real (hX : ∀ i, IsReal (X i)) (hQ : ∀ i, IsReal (WQ i)) (hK : ∀ i, IsReal (WK i)) (b : Fin 2) (g : Fin 32) (i j : Fin 512) :
    IsReal (scr X WQ WK b g i j) :=
  (IsReal.sum _ _ fun _ _ => (prj_real X WQ hX hQ _ _ _).mul (prj_real X WK hX hK _ _ _)).mul eighth_real

end Cert.Attention

end
-- ==== Proof.KernelIdeal.Read.lean ====
/-
  The kernel's values read at an index: projections, attention of a head, partial results.
-/
module

public import proofs.«01_k».proof.Proof.KernelIdeal.Model
public import proofs.«01_k».proof.Proof.Whole
public import Idealize.ShloMosaic.Lib.Pointwise.IndexBridge

@[expose] public section

set_option maxRecDepth 16384

noncomputable section

namespace Cert.KernelIdealAttn

open Cert.KernelIdeal Cert.KernelIdeal.Gen Cert.Attention
open Idealize.ShloMosaic Idealize.ShloMosaic.TcCoe
open scoped BigOperators

/-- The rows of batch `b` of a block. -/
theorem xrows_apply (b : Fin 2) (x : FVec Ideal S2x128x512 .bf16) (r : Fin 128) (k : Fin 512) : xrows b x (ix2 r k) = x (ix3 b r k) := by
  match b with
  | ⟨0, _⟩ => show k0_pay6 (F := Ideal) x (ix2 r k) = _; pointwise [k0_pay6]
  | ⟨1, _⟩ => show k0_pay10 (F := Ideal) x (ix2 r k) = _; pointwise [k0_pay10]

/-- A piece of a projection. -/
theorem projRows_apply (w : FVec Ideal S512x512 .bf16) (xr : FVec Ideal S128x512 .bf16) (r : Fin 128) (e : Fin 512) :
    projRows w xr (ix3 0 r e) = ∑ k : Fin 512, xr (ix2 r k) * w (ix2 k e) := by
  pointwise [projRows, projFlat, projRaw]

/-- A projection of all rows. -/
theorem projAll_apply (w : FVec Ideal S512x512 .bf16) (X : Dev nD → FVec Ideal S2x128x512 .bf16) (b : Fin 2) (i e : Fin 512) :
    projAll w X (ix3 b i e) = ∑ k : Fin 512, X (⟨i.val / 128, by have := i.isLt; show _ < 4; omega⟩ : Dev nD) (ix3 b ⟨i.val % 128, Nat.mod_lt _ (by decide)⟩ k) * w (ix2 k e) := by
  unfold projAll
  simp only [← ix3_eq_valueIdx]
  refine (projRows_apply w _ _ _).trans ?_
  exact Finset.sum_congr rfl fun k _ => congrArg (· * w (ix2 k e)) (xrows_apply _ _ _ _)

/-- A head's scores, before the eighth. -/
theorem headDots_apply (o : ℕ) (h : S512x512.Slices ![0, o] S512x64) (ho : o + 64 ≤ 512) (q k : FVec Ideal S512x512 .bf16) (i j : Fin 512) :
    headDots o h q k (ix2 i j) = ∑ d : Fin 64, q (ix2 i ⟨o + d.val, by omega⟩) * k (ix2 j ⟨o + d.val, by omega⟩) := by
  pointwise [headDots, headCols]

/-- Their exponentials. -/
theorem headExps_apply (s : FVec Ideal S512x512 .f32) (i j : Fin 512) : headExps s (ix2 i j) = Ideal.exp (s (ix2 i j) * Ideal.ofBits .f32 0x3E000000#32) := by
  pointwise [headExps]

/-- The sum of a row's exponentials. -/
theorem headDen_apply (s : FVec Ideal S512x512 .f32) (i : Fin 512) : headDen s (ix2 i 0) = ∑ j : Fin 512, headExps s (ix2 i j) := by
  unfold headDen
  generalize headExps s = p
  pointwise

/-- The weighted values. -/
theorem headNum_apply (s : FVec Ideal S512x512 .f32) (v : FVec Ideal S512x64 .bf16) (i : Fin 512) (d : Fin 64) :
    headNum s v (ix2 i d) = ∑ j : Fin 512, headExps s (ix2 i j) * v (ix2 j d) := by
  unfold headNum
  generalize headExps s = p
  pointwise

/-- A head's columns. -/
theorem headCols_apply (o : ℕ) (h : S512x512.Slices ![0, o] S512x64) (ho : o + 64 ≤ 512) (v : FVec Ideal S512x512 .bf16) (i : Fin 512) (d : Fin 64) :
    headCols o h v (ix2 i d) = v (ix2 i ⟨o + d.val, by omega⟩) := by
  pointwise [headCols]

/-- The quotient. -/
theorem quot_apply (n : FVec Ideal S512x64 .f32) (d : FVec Ideal S512x1 .f32) (i : Fin 512) (e : Fin 64) :
    shapeCast S1x512x64 (headQuot n (broadcastTo S512x64 d broadcasts_S512x1_S512x64)) shapeCasts_S512x64_S1x512x64 (ix3 0 i e) = Ideal.div (n (ix2 i e)) (d (ix2 i 0)) := by
  pointwise [headQuot]

/-- A batch of partial results. -/
theorem outPlane_apply (wo o : FVec Ideal S512x512 .bf16) (i k : Fin 512) : outPlane wo o (ix3 0 i k) = ∑ e : Fin 512, o (ix2 i e) * wo (ix2 e k) := by
  pointwise [outPlane]

end Cert.KernelIdealAttn

end
-- ==== Proof.KernelIdeal.Attention.lean ====
/-
  On blocks of whole arrays the kernel computes attention: each device's projections are the columns of its heads, its
  attention theirs, its partial result their share of the output projection, and the devices' shares add up.
-/
module

public import proofs.«01_k».proof.Proof.KernelIdeal.Read

@[expose] public section

set_option maxRecDepth 16384

noncomputable section

namespace Cert.KernelIdealAttn

open Cert.KernelIdeal Cert.KernelIdeal.Gen Cert.Attention
open Idealize.ShloMosaic Idealize.ShloMosaic.TcCoe
open scoped BigOperators

/-- A device's number is below four. -/
theorem dev_lt (c : Dev nD) : c.val < 4 := c.isLt

/-- Row `r` of device `c`'s sequence block. -/
def rowIn (c : Dev nD) (r : Fin 128) : Fin 512 := ⟨128 * c.val + r.val, by have := dev_lt c; omega⟩
/-- Column `e` of device `c`'s heads. -/
def colIn (c : Dev nD) (e : Fin 512) : Fin 2048 := ⟨512 * c.val + e.val, by have := dev_lt c; omega⟩

/-- A batch read at an index. -/
theorem plane_apply {α : Type} (G : S2x512x512.Idx → α) (b : Fin 2) (i j : Fin 512) : plane G b (ix2 i j) = G (ix3 b i j) := by
  show G (ValueIdx.ix3 b i j) = _
  rw [← ix3_eq_valueIdx]

/-- A sequence block read at an index. -/
theorem rowsOf_apply (y : FVec Ideal S2x512x512 .f32) (d : Dev nD) (b : Fin 2) (r : Fin 128) (o : Fin 512) : rowsOf (F := Ideal) y d (ix3 b r o) = y (ix3 b (rowIn d r) o) := by
  show y (ValueIdx.ix3 b (rowIn d r) o) = _
  rw [← ix3_eq_valueIdx]

/-- A device and the three it receives from are all four. -/
theorem sum_srcs (f : Dev nD → EReal) (c : Dev nD) : f c + f (src c 2) + f (src c 0) + f (src c 1) = f 0 + f 1 + f 2 + f 3 := by
  have h : ∀ c : Dev nD, (c = 0 ∧ src c 2 = 3 ∧ src c 0 = 1 ∧ src c 1 = 2) ∨ (c = 1 ∧ src c 2 = 0 ∧ src c 0 = 2 ∧ src c 1 = 3)
      ∨ (c = 2 ∧ src c 2 = 1 ∧ src c 0 = 3 ∧ src c 1 = 0) ∨ (c = 3 ∧ src c 2 = 2 ∧ src c 0 = 0 ∧ src c 1 = 1) := by decide
  rcases h c with ⟨h, h2, h0, h1⟩ | ⟨h, h2, h0, h1⟩ | ⟨h, h2, h0, h1⟩ | ⟨h, h2, h0, h1⟩ <;> rw [h2, h0, h1, h] <;> ac_rfl

/-- One head's attention, from its three projections. -/
theorem headOut_apply (o : ℕ) (h : S512x512.Slices ![0, o] S512x64) (ho : o + 64 ≤ 512) (q k v : FVec Ideal S512x512 .bf16) (i : Fin 512) (d : Fin 64) :
    headOut o h q k v (ix3 0 i d)
      = Ideal.div (∑ j : Fin 512, Ideal.exp ((∑ d' : Fin 64, q (ix2 i ⟨o + d'.val, by omega⟩) * k (ix2 j ⟨o + d'.val, by omega⟩)) * Ideal.ofBits .f32 0x3E000000#32) * v (ix2 j ⟨o + d.val, by omega⟩))
          (∑ j : Fin 512, Ideal.exp ((∑ d' : Fin 64, q (ix2 i ⟨o + d'.val, by omega⟩) * k (ix2 j ⟨o + d'.val, by omega⟩)) * Ideal.ofBits .f32 0x3E000000#32)) := by
  unfold headOut headFlat
  rw [quot_apply, headNum_apply, headDen_apply]
  simp only [headExps_apply, headDots_apply o h ho, headCols_apply o h ho]

/-- Every head's attention. -/
theorem headsAll_apply (Q K V : FVec Ideal S2x512x512 .bf16) (b : Fin 2) (i e : Fin 512) :
    headsAll (F := Ideal) Q K V (ix3 b i e)
      = Ideal.div (∑ j : Fin 512, Ideal.exp ((∑ d : Fin 64, Q (ix3 b i ⟨64 * (e.val / 64) + d.val, by omega⟩) * K (ix3 b j ⟨64 * (e.val / 64) + d.val, by omega⟩)) * Ideal.ofBits .f32 0x3E000000#32)
            * V (ix3 b j e))
          (∑ j : Fin 512, Ideal.exp ((∑ d : Fin 64, Q (ix3 b i ⟨64 * (e.val / 64) + d.val, by omega⟩) * K (ix3 b j ⟨64 * (e.val / 64) + d.val, by omega⟩)) * Ideal.ofBits .f32 0x3E000000#32)) := by
  have he : (⟨64 * (e.val / 64) + (⟨e.val % 64, Nat.mod_lt _ (by decide)⟩ : Fin 64).val, by show _ + e.val % 64 < 512; omega⟩ : Fin 512) = e := Fin.ext (by show 64 * (e.val / 64) + e.val % 64 = e.val; omega)
  show headOut (F := Ideal) (64 * (e.val / 64)) (head_slices ⟨e.val / 64, by omega⟩) (plane Q b) (plane K b) (plane V b) (ValueIdx.ix3 0 i ⟨e.val % 64, Nat.mod_lt _ (by decide)⟩) = _
  rw [← ix3_eq_valueIdx]
  refine (headOut_apply (64 * (e.val / 64)) (head_slices ⟨e.val / 64, by omega⟩) (by omega) _ _ _ i ⟨e.val % 64, Nat.mod_lt _ (by decide)⟩).trans ?_
  rw [he]
  simp only [plane_apply]

variable (ins : Ins Ideal) (X : SX.Idx → EReal) (WQ WK WV : SW.Idx → EReal) (WO : SO.Idx → EReal)

/-- The devices hold blocks of whole arrays: sequence blocks of the activations, columns of the input projections, rows of
    the output projection. -/
structure Blocks : Prop where
  x : ∀ c b r k, ins.x c (ix3 b r k) = X (ix3 b (rowIn c r) k)
  wq : ∀ c k e, ins.wq c (ix2 k e) = WQ (ix2 k (colIn c e))
  wk : ∀ c k e, ins.wk c (ix2 k e) = WK (ix2 k (colIn c e))
  wv : ∀ c k e, ins.wv c (ix2 k e) = WV (ix2 k (colIn c e))
  wo : ∀ c e o, ins.wo c (ix2 e o) = WO (ix2 (colIn c e) o)

variable {ins X WQ WK WV WO} (H : Blocks ins X WQ WK WV WO)
include H

/-- A projection by a device's columns is those columns of the whole projection. -/
theorem Blocks.proj (W : SW.Idx → EReal) (w : FVec Ideal S512x512 .bf16) (c : Dev nD) (hw : ∀ k e, w (ix2 k e) = W (ix2 k (colIn c e))) (b : Fin 2) (i e : Fin 512) :
    projAll w ins.x (ix3 b i e) = prj X W b i (colIn c e) := by
  rw [projAll_apply]
  refine Finset.sum_congr rfl fun k _ => ?_
  rw [H.x, hw]
  congr 3
  exact Fin.ext (by show 128 * (i.val / 128) + i.val % 128 = i.val; omega)

/-- The head of a device's column. -/
def headIn (c : Dev nD) (e : Fin 512) : Fin 32 := ⟨8 * c.val + e.val / 64, by have := dev_lt c; omega⟩

omit H in
theorem headOf_colIn (c : Dev nD) (e : Fin 512) : headOf (colIn c e) = headIn c e := Fin.ext (by show (512 * c.val + e.val) / 64 = 8 * c.val + e.val / 64; omega)

omit H in
theorem colIn_head (c : Dev nD) (e : Fin 512) (d : Fin 64) : colIn c ⟨64 * (e.val / 64) + d.val, by omega⟩ = col (headOf (colIn c e)) d :=
  Fin.ext (by show 512 * c.val + (64 * (e.val / 64) + d.val) = 64 * ((512 * c.val + e.val) / 64) + d.val; omega)

omit H in
theorem colIn_place (c : Dev nD) (e : Fin 512) : col (headOf (colIn c e)) (inHead (colIn c e)) = colIn c e :=
  Fin.ext (by show 64 * ((512 * c.val + e.val) / 64) + (512 * c.val + e.val) % 64 = 512 * c.val + e.val; omega)

/-- A device's attention is its heads'. -/
theorem Blocks.heads (c : Dev nD) (b : Fin 2) (i e : Fin 512) :
    ins.O c (ix3 b i e) = att X WQ WK WV b (headOf (colIn c e)) i (inHead (colIn c e)) := by
  unfold Ins.O Ins.Q Ins.K Ins.V
  rw [headsAll_apply]
  simp only [H.proj WQ _ c (H.wq c), H.proj WK _ c (H.wk c), H.proj WV _ c (H.wv c), colIn_head]
  unfold att scr
  rw [colIn_place]

/-- A device's partial result is its heads' share. -/
theorem Blocks.part (c : Dev nD) (b : Fin 2) (i o : Fin 512) :
    ins.Y c (ix3 b i o) = ∑ e : Fin 512, att X WQ WK WV b (headOf (colIn c e)) i (inHead (colIn c e)) * WO (ix2 (colIn c e) o) := by
  show outPlane (F := Ideal) (ins.wo c) (plane (ins.O c) b) (ValueIdx.ix3 0 i o) = _
  rw [← ix3_eq_valueIdx]
  refine (outPlane_apply _ _ i o).trans (Finset.sum_congr rfl fun e _ => ?_)
  rw [H.wo, plane_apply]
  exact congrArg (· * _) (H.heads c b i e)

omit H in
/-- The four devices' columns are all columns. -/
theorem sum_cols (f : Fin 2048 → EReal) :
    ∑ e : Fin 2048, f e = (∑ e : Fin 512, f (colIn 0 e)) + (∑ e : Fin 512, f (colIn 1 e)) + (∑ e : Fin 512, f (colIn 2 e)) + ∑ e : Fin 512, f (colIn 3 e) := by
  have h := Fintype.sum_equiv (finProdFinEquiv (m := 4) (n := 512)) (fun p => f (colIn p.1 p.2)) f fun p => congrArg f (Fin.ext (by
    show 512 * p.1.val + p.2.val = p.2.val + 512 * p.1.val; omega))
  rw [← h, Fintype.sum_prod_type, Fin.sum_univ_four]

/-- A device's result is its rows of the attention. -/
theorem Blocks.out (c : Dev nD) (b : Fin 2) (r : Fin 128) (o : Fin 512) :
    ins.out c (ix3 b r o) = res X WQ WK WV WO b (rowIn c r) o := by
  show rowsOf (F := Ideal) (ins.Y c) c (ix3 b r o) + rowsOf (F := Ideal) (ins.Y (src c 2)) c (ix3 b r o) + rowsOf (F := Ideal) (ins.Y (src c 0)) c (ix3 b r o)
    + rowsOf (F := Ideal) (ins.Y (src c 1)) c (ix3 b r o) = _
  rw [sum_srcs (fun d => rowsOf (F := Ideal) (ins.Y d) c (ix3 b r o)) c]
  simp only [rowsOf_apply, H.part]
  unfold res
  rw [sum_cols]

end Cert.KernelIdealAttn

end
-- ==== Proof.ReferenceIdeal.Stages.lean ====
/-
  The reference's result, taken apart: projection, scores, their maximum, the shifted exponentials, the two sums, the
  quotient and the output projection.
-/
module

public import proofs.«01_k».proof.Proof.Gen.ReferenceIdeal.Run
public import proofs.«01_k».proof.Proof.Whole
public import Idealize.ShloMosaic.Lib.Tactic.CleanTypes

@[expose] public section

set_option maxRecDepth 16384

noncomputable section

namespace Cert.ReferenceIdealAttn

open Cert.ReferenceIdeal Cert.ReferenceIdeal.Gen Cert.Attention
open Idealize.ShloMosaic Idealize.ShloMosaic.TcCoe
open scoped BigOperators

/-- A projection, its columns split into heads. -/
def heads (x : FVec Ideal S2x512x512 .bf16) (w : FVec Ideal S512x2048 .bf16) : FVec Ideal S2x512x32x64 .bf16 :=
  shapeCast S2x512x32x64 (truncf .bf16 (Host.dotGeneral dot_S2x512x512_S512x2048_S2x512x2048_2_0_01_1_n_n none x w : FVec Ideal S2x512x2048 .f32) bitsLt_bf16_f32 : FVec Ideal S2x512x2048 .bf16)
    shapeCasts_S2x512x2048_S2x512x32x64

/-- The scores. -/
def scores (q k : FVec Ideal S2x512x32x64 .bf16) : FVec Ideal S2x32x512x512 .f32 :=
  mulf (extf .f32 (truncf .bf16 (Host.dotGeneral dot_S2x512x32x64_S2x512x32x64_S2x32x512x512_3_3_1_1_02_02 none q k : FVec Ideal S2x32x512x512 .f32) bitsLt_bf16_f32 : FVec Ideal S2x32x512x512 .bf16) bitsLt_bf16_f32)
    (broadcastInDim S2x32x512x512 ![] bcast_S_S2x32x512x512 (constant S_ .f32 0x3E000000#32))

/-- The maximum before any score: −∞. -/
def lowest : FVec Ideal S2x32x512x1 .f32 := broadcastInDim S2x32x512x1 ![] bcast_S_S2x32x512x1 (constant S_ .f32 0xFF800000#32)

/-- The largest score of each row. -/
def largest (s : FVec Ideal S2x32x512x512 .f32) : FVec Ideal S2x32x512x1 .f32 :=
  maximumf lowest (broadcastInDim S2x32x512x1 ![0, 1, 2] bcast_S2x32x512_S2x32x512x1_0_1_2
    (Host.reduce FloatOps.maximumf s (constant S_ .f32 0xFF800000#32) reducesTo_S2x32x512x512_S2x32x512_d3 h_S_))

/-- The factor for what was summed before. -/
def earlier (M : FVec Ideal S2x32x512x1 .f32) : FVec Ideal S2x32x512x1 .f32 := Host.exp (subf lowest M)

/-- The exponentials of the scores less their row's largest. -/
def weights (s : FVec Ideal S2x32x512x512 .f32) (M : FVec Ideal S2x32x512x1 .f32) : FVec Ideal S2x32x512x512 .f32 :=
  Host.exp (subf s (broadcastInDim S2x32x512x512 ![0, 1, 2, 3] bcast_S2x32x512x1_S2x32x512x512_0_1_2_3 M))

/-- The sum of a row's exponentials, accumulated from zero. -/
def total (p : FVec Ideal S2x32x512x512 .f32) (a : FVec Ideal S2x32x512x1 .f32) : FVec Ideal S2x32x512x1 .f32 :=
  addf (mulf (broadcastInDim S2x32x512x1 ![] bcast_S_S2x32x512x1 (constant S_ .f32 0x00000000#32)) a)
    (broadcastInDim S2x32x512x1 ![0, 1, 2] bcast_S2x32x512_S2x32x512x1_0_1_2 (Host.reduceAdd p (constant S_ .f32 0x00000000#32) reducesTo_S2x32x512x512_S2x32x512_d3 h_S_))

/-- The weighted values, accumulated from zero. -/
def weighted (v : FVec Ideal S2x512x32x64 .bf16) (p : FVec Ideal S2x32x512x512 .f32) (a : FVec Ideal S2x32x512x1 .f32) : FVec Ideal S2x512x32x64 .f32 :=
  addf (mulf (broadcastInDim S2x512x32x64 ![] bcast_S_S2x512x32x64 (constant S_ .f32 0x00000000#32))
      (broadcastInDim S2x512x32x64 ![0, 1, 2, 3] bcast_S2x512x32x1_S2x512x32x64_0_1_2_3 (transpose S2x512x32x1 [0, 2, 1, 3] a transposes_S2x32x512x1_S2x512x32x1_0_2_1_3)))
    (transpose S2x512x32x64 [0, 3, 1, 2]
      (Host.dotGeneral dot_S2x512x32x64_S2x32x512x512_S2x32x64x512_1_3_3_2_02_01 none (extf .f32 v bitsLt_bf16_f32 : FVec Ideal S2x512x32x64 .f32) p : FVec Ideal S2x32x64x512 .f32)
      transposes_S2x32x64x512_S2x512x32x64_0_3_1_2)

/-- Their quotient, and its product with the output projection. -/
def projected (n : FVec Ideal S2x512x32x64 .f32) (d : FVec Ideal S2x32x512x1 .f32) (w : FVec Ideal S2048x512 .bf16) : FVec Ideal S2x512x512 .f32 :=
  Host.dotGeneral dot_S2x512x2048_S2048x512_S2x512x512_2_0_01_1_n_n none
    (shapeCast S2x512x2048 (Host.divf n (broadcastInDim S2x512x32x64 ![0, 1, 2, 3] bcast_S2x512x32x1_S2x512x32x64_0_1_2_3
      (transpose S2x512x32x1 [0, 2, 1, 3] d transposes_S2x32x512x1_S2x512x32x1_0_2_1_3)) : FVec Ideal S2x512x32x64 .f32) shapeCasts_S2x512x32x64_S2x512x2048 : FVec Ideal S2x512x2048 .f32)
    (extf .f32 w bitsLt_bf16_f32 : FVec Ideal S2048x512 .f32)

/-- The result, from the arguments. -/
def whole (x : FVec Ideal S2x512x512 .bf16) (wq wk wv : FVec Ideal S512x2048 .bf16) (wo : FVec Ideal S2048x512 .bf16) : FVec Ideal S2x512x512 .f32 :=
  projected
    (weighted (heads x wv) (weights (scores (heads x wq) (heads x wk)) (largest (scores (heads x wq) (heads x wk)))) (earlier (largest (scores (heads x wq) (heads x wk)))))
    (total (weights (scores (heads x wq) (heads x wk)) (largest (scores (heads x wq) (heads x wk)))) (earlier (largest (scores (heads x wq) (heads x wk)))))
    wo

/-- It is what the run leaves. -/
theorem result_eq (m : (ℓ : Loc nD τ sig) → Buf (Elt Ideal) ℓ) (c : Dev nD) :
    Cert.ReferenceIdeal.Value.res_out0 m c = whole (m ((c : Thread nD τ).loc main_arg0)) (m ((c : Thread nD τ).loc main_arg1)) (m ((c : Thread nD τ).loc main_arg2))
      (m ((c : Thread nD τ).loc main_arg3)) (m ((c : Thread nD τ).loc main_arg4)) := by
  show Cert.ReferenceIdeal.Value.res_main_v41 m c = _; unfold Cert.ReferenceIdeal.Value.res_main_v41; rfl

end Cert.ReferenceIdealAttn

end
-- ==== Proof.ReferenceIdeal.Read.lean ====
/-
  The reference's stages read at an index.
-/
module

public import proofs.«01_k».proof.Proof.ReferenceIdeal.Stages

@[expose] public section

set_option maxRecDepth 16384

noncomputable section

namespace Cert.ReferenceIdealAttn

open Cert.ReferenceIdeal Cert.ReferenceIdeal.Gen Cert.Attention
open Idealize.ShloMosaic Idealize.ShloMosaic.TcCoe
open scoped BigOperators

/-- A projection, by head and place. -/
theorem heads_apply (x : FVec Ideal S2x512x512 .bf16) (w : FVec Ideal S512x2048 .bf16) (b : Fin 2) (i : Fin 512) (g : Fin 32) (d : Fin 64) :
    heads x w (ix4 b i g d) = prj x w b i (col g d) := by
  pointwise [heads, prj, col]
  simp only [Nat.mul_comm]

/-- A score. -/
theorem scores_apply (q k : FVec Ideal S2x512x32x64 .bf16) (b : Fin 2) (g : Fin 32) (i j : Fin 512) :
    scores q k (ix4 b g i j) = (∑ d : Fin 64, q (ix4 b i g d) * k (ix4 b j g d)) * Ideal.ofBits .f32 0x3E000000#32 := by
  pointwise [scores]

/-- The starting maximum is −∞. -/
theorem lowest_apply (b : Fin 2) (g : Fin 32) (i : Fin 512) : lowest (ix4 b g i 0) = ⊥ := by
  show Ideal.ofBits .f32 0xFF800000#32 = ⊥
  simp [Ideal.ofBits, Ideal.ieee]

/-- The factor for nothing. -/
theorem earlier_apply (M : FVec Ideal S2x32x512x1 .f32) (b : Fin 2) (g : Fin 32) (i : Fin 512) :
    earlier M (ix4 b g i 0) = Ideal.exp (⊥ - M (ix4 b g i 0)) := by
  show Ideal.exp (lowest (ix4 b g i 0) - M (ix4 b g i 0)) = _
  rw [lowest_apply]

/-- A shifted exponential. -/
theorem weights_apply (s : FVec Ideal S2x32x512x512 .f32) (M : FVec Ideal S2x32x512x1 .f32) (b : Fin 2) (g : Fin 32) (i j : Fin 512) :
    weights s M (ix4 b g i j) = Ideal.exp (s (ix4 b g i j) - M (ix4 b g i 0)) := by
  pointwise [weights]

/-- The sum of the weights. -/
theorem total_apply (p : FVec Ideal S2x32x512x512 .f32) (a : FVec Ideal S2x32x512x1 .f32) (b : Fin 2) (g : Fin 32) (i : Fin 512) :
    total p a (ix4 b g i 0) = 0 * a (ix4 b g i 0) + ∑ j : Fin 512, p (ix4 b g i j) := by
  pointwise [total]

/-- A weighted sum of the values. -/
theorem weighted_apply (v : FVec Ideal S2x512x32x64 .bf16) (p : FVec Ideal S2x32x512x512 .f32) (a : FVec Ideal S2x32x512x1 .f32) (b : Fin 2) (i : Fin 512) (g : Fin 32) (d : Fin 64) :
    weighted v p a (ix4 b i g d) = 0 * a (ix4 b g i 0) + ∑ j : Fin 512, v (ix4 b j g d) * p (ix4 b g i j) := by
  pointwise [weighted]

/-- An element of the result. -/
theorem projected_apply (n : FVec Ideal S2x512x32x64 .f32) (d : FVec Ideal S2x32x512x1 .f32) (w : FVec Ideal S2048x512 .bf16) (b : Fin 2) (i o : Fin 512) :
    projected n d w (ix3 b i o) = ∑ e : Fin 2048, Ideal.div (n (ix4 b i (headOf e) (inHead e))) (d (ix4 b (headOf e) i 0)) * w (ix2 e o) := by
  pointwise [projected, headOf, inHead]

/-- The element `(b, g, i, 0)` reduces to `(b, g, i)`. -/
theorem drops (b : Fin 2) (g : Fin 32) (i : Fin 512) : reducesTo_S2x32x512x512_S2x32x512_d3.drop (ix4 b g i 0) = (ix3 b g i : S2x32x512.Idx) := by
  funext a
  refine Fin.ext ((Shape.ReducesTo.drop_apply_val _ _ _).trans ?_)
  match a with
  | ⟨0, _⟩ => rfl
  | ⟨1, _⟩ => rfl
  | ⟨2, _⟩ => rfl

/-- One value for each row, with a last axis of one element. -/
theorem unsqueeze_apply (r : FVec Ideal S2x32x512 .f32) (b : Fin 2) (g : Fin 32) (i : Fin 512) :
    broadcastInDim S2x32x512x1 ![0, 1, 2] bcast_S2x32x512_S2x32x512x1_0_1_2 r (ix4 b g i 0) = r (ix3 b g i) := by
  pointwise

/-- The maximum of reals over the last axis is real. -/
theorem rowMax_real (s : FVec Ideal S2x32x512x512 .f32) (hs : ∀ j, IsReal (s j)) (b : Fin 2) (g : Fin 32) (i : Fin 512) :
    IsReal (Host.reduce (FloatOps.maximumf (F := Ideal) (φ := .f32)) s (constant (F := Ideal) S_ .f32 0xFF800000#32) reducesTo_S2x32x512x512_S2x32x512_d3 h_S_ (ix3 b g i)) :=
  reduce_max_real s _ _ _ _ hs (by show Ideal.ofBits .f32 0xFF800000#32 = ⊥; simp [Ideal.ofBits, Ideal.ieee]) _ (drops b g i)

/-- The largest of real scores is real. -/
theorem largest_real (s : FVec Ideal S2x32x512x512 .f32) (hs : ∀ j, IsReal (s j)) (b : Fin 2) (g : Fin 32) (i : Fin 512) : IsReal (largest s (ix4 b g i 0)) := by
  have h := rowMax_real s hs b g i
  have e : ∀ r : FVec Ideal S2x32x512 .f32, IsReal (r (ix3 b g i)) →
      IsReal (maximumf lowest (broadcastInDim S2x32x512x1 ![0, 1, 2] bcast_S2x32x512_S2x32x512x1_0_1_2 r) (ix4 b g i 0)) := by
    intro r hr
    show IsReal (max (lowest (ix4 b g i 0)) (broadcastInDim S2x32x512x1 ![0, 1, 2] bcast_S2x32x512_S2x32x512x1_0_1_2 r (ix4 b g i 0)))
    rw [lowest_apply, unsqueeze_apply]
    simpa using hr
  exact e _ h

end Cert.ReferenceIdealAttn

end
-- ==== Proof.ReferenceIdeal.Attention.lean ====
/-
  The reference computes attention.
-/
module

public import proofs.«01_k».proof.Proof.ReferenceIdeal.Read

@[expose] public section

set_option maxRecDepth 16384

noncomputable section

namespace Cert.ReferenceIdealAttn

open Cert.ReferenceIdeal Cert.ReferenceIdeal.Gen Cert.Attention
open Idealize.ShloMosaic Idealize.ShloMosaic.TcCoe
open scoped BigOperators

variable (x : FVec Ideal S2x512x512 .bf16) (wq wk wv : FVec Ideal S512x2048 .bf16) (wo : FVec Ideal S2048x512 .bf16)

/-- The scores. -/
theorem scores_eq (b : Fin 2) (g : Fin 32) (i j : Fin 512) : scores (heads x wq) (heads x wk) (ix4 b g i j) = scr x wq wk b g i j := by
  rw [scores_apply]; simp only [heads_apply]; rfl

/-- With finite activations and weights of queries and keys, the reference's result is attention. -/
theorem whole_apply (hx : ∀ i, IsReal (x i)) (hq : ∀ i, IsReal (wq i)) (hk : ∀ i, IsReal (wk i)) (b : Fin 2) (i o : Fin 512) :
    whole x wq wk wv wo (ix3 b i o) = res x wq wk wv wo b i o := by
  have hs : ∀ j, IsReal (scores (heads x wq) (heads x wk) j) := fun j => by
    rw [eq_ix4 j]; exact (scores_eq x wq wk (j 0) (j 1) (j 2) (j 3)).symm ▸ scr_real x wq wk hx hq hk _ _ _ _
  unfold whole res
  rw [projected_apply]
  refine Finset.sum_congr rfl fun e _ => congrArg (· * wo (ix2 e o)) ?_
  rw [weighted_apply, total_apply, earlier_apply]
  simp only [weights_apply, scores_eq, heads_apply]
  exact mean_shift (by decide) (fun j => scr x wq wk b (headOf e) i j) (fun j => prj x wv b j (col (headOf e) (inHead e))) _
    (fun j => scr_real x wq wk hx hq hk _ _ _ _) (largest_real _ hs _ _ _)

end Cert.ReferenceIdealAttn

end
-- ==== Proof.Blocks.lean ====
/-
  Both programs on the same whole arrays: the devices' blocks, the finiteness of the arguments, and the two results equal.
-/
module

public import proofs.«01_k».proof.Defs
public import proofs.«01_k».proof.Proof.Gen.Pre_scores_are_finite_KernelIdeal
public import proofs.«01_k».proof.Proof.KernelIdeal.Attention
public import proofs.«01_k».proof.Proof.ReferenceIdeal.Attention
public import Idealize.ShloMosaic.Lib.ReduceAll
public import Idealize.ShloMosaic.Lib.Layout

@[expose] public section

set_option maxRecDepth 16384

noncomputable section

namespace Cert.Proof

open Idealize.ShloMosaic Idealize.SL.Sem Cert.Attention Cert.KernelIdealAttn

/-- A device's block of the activations. -/
theorem block_x (X : SX.Idx → EReal) (c : Fin 4) (h) (b : Fin 2) (r : Fin 128) (k : Fin 512) :
    Layout.block ⟨3, ![2, 128, 512]⟩ ⟨3, ![2, 512, 512]⟩ 1 4 c X h (ix3 b r k) = X (ix3 b (rowIn c r) k) := by
  rw [Layout.block_apply]
  congr 1
  funext a
  match a with
  | ⟨0, _⟩ => rfl
  | ⟨1, _⟩ => exact Fin.ext (by show c.val * 128 + r.val = 128 * c.val + r.val; omega)
  | ⟨2, _⟩ => rfl

/-- Of an input projection. -/
theorem block_w (W : SW.Idx → EReal) (c : Fin 4) (h) (k e : Fin 512) :
    Layout.block ⟨2, ![512, 512]⟩ ⟨2, ![512, 2048]⟩ 1 4 c W h (ix2 k e) = W (ix2 k (colIn c e)) := by
  rw [Layout.block_apply]
  congr 1
  funext a
  match a with
  | ⟨0, _⟩ => rfl
  | ⟨1, _⟩ => exact Fin.ext (by show c.val * 512 + e.val = 512 * c.val + e.val; omega)

/-- Of the output projection. -/
theorem block_o (W : SO.Idx → EReal) (c : Fin 4) (h) (e o : Fin 512) :
    Layout.block ⟨2, ![512, 512]⟩ ⟨2, ![2048, 512]⟩ 0 4 c W h (ix2 e o) = W (ix2 (colIn c e) o) := by
  rw [Layout.block_apply]
  congr 1
  funext a
  match a with
  | ⟨0, _⟩ => exact Fin.ext (by show c.val * 512 + e.val = 512 * c.val + e.val; omega)
  | ⟨1, _⟩ => rfl

/-- A number whose absolute value compares below infinity is real. -/
theorem real_of_lt (x : EReal) (h : Ideal.cmp .olt (max x (-x)) (Ideal.ofBits .bf16 0x7F80#16) = 1#1) : IsReal x := by
  have ht : Ideal.ofBits .bf16 0x7F80#16 = ⊤ := by simp [Ideal.ofBits, Ideal.ieee]
  rw [ht] at h
  induction x with
  | bot => simp [Ideal.cmp] at h
  | top => simp [Ideal.cmp] at h
  | coe r => exact ⟨r, rfl⟩

/-- The precondition says that a device's blocks of the activations and of the query and key weights are real. -/
theorem pre_real (x : FVec Ideal ⟨3, ![2, 128, 512]⟩ .bf16) (wq wk wv wo : FVec Ideal ⟨2, ![512, 512]⟩ .bf16)
    (h : Cert.Pre_scores_are_finite_KernelIdeal.fn (F := Ideal) x wq wk wv wo = (fun _ => 1#1)) :
    (∀ i, IsReal (x i)) ∧ (∀ i, IsReal (wq i)) ∧ ∀ i, IsReal (wk i) := by
  haveI : Subsingleton Cert.Pre_scores_are_finite_KernelIdeal.S_.Idx := ⟨fun a b => funext fun k => k.elim0⟩
  have h' := congrFun h (fun k => k.elim0)
  unfold Cert.Pre_scores_are_finite_KernelIdeal.fn at h'
  obtain ⟨h12, h3⟩ := IntOp.andi_eq_one.1 h'
  obtain ⟨h1, h2⟩ := IntOp.andi_eq_one.1 h12
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

/-- Real on every device's block, the activations are real. -/
theorem whole_x_real (X : SX.Idx → EReal) (h : ∀ (c : Fin 4) b r k, IsReal (X (ix3 b (rowIn c r) k))) (i : SX.Idx) : IsReal (X i) := by
  have h1 : (i 1).val < 512 := (i 1).isLt
  have e : i = ix3 (n0 := 2) (n1 := 512) (n2 := 512) (i 0) (rowIn ⟨(i 1).val / 128, by show _ < 4; omega⟩ ⟨(i 1).val % 128, Nat.mod_lt _ (by decide)⟩) (i 2) := by
    refine (eq_ix3 i).trans (congrArg (fun z => ix3 (n0 := 2) (n1 := 512) (n2 := 512) (i 0) z (i 2)) (Fin.ext ?_))
    show (i 1).val = 128 * ((i 1).val / 128) + (i 1).val % 128; omega
  rw [e]; exact h _ _ _ _

/-- And a projection. -/
theorem whole_w_real (W : SW.Idx → EReal) (h : ∀ (c : Fin 4) k e, IsReal (W (ix2 k (colIn c e)))) (i : SW.Idx) : IsReal (W i) := by
  have h1 : (i 1).val < 2048 := (i 1).isLt
  have e : i = ix2 (n0 := 512) (n1 := 2048) (i 0) (colIn ⟨(i 1).val / 512, by show _ < 4; omega⟩ ⟨(i 1).val % 512, Nat.mod_lt _ (by decide)⟩) := by
    refine (eq_ix2 i).trans (congrArg (fun z => ix2 (n0 := 512) (n1 := 2048) (i 0) z) (Fin.ext ?_))
    show (i 1).val = 512 * ((i 1).val / 512) + (i 1).val % 512; omega
  rw [e]; exact h _ _ _

/-- On blocks of whole arrays, the activations and the query and key weights real, the kernel's result is its block of the reference's. -/
theorem results_agree (ins : Ins Ideal) (X : SX.Idx → EReal) (WQ WK WV : SW.Idx → EReal) (WO : SO.Idx → EReal) (H : Blocks ins X WQ WK WV WO)
    (hx : ∀ c i, IsReal (ins.x c i)) (hq : ∀ c i, IsReal (ins.wq c i)) (hk : ∀ c i, IsReal (ins.wk c i)) (c : Fin 4) (h) :
    ins.out c = Layout.block ⟨3, ![2, 128, 512]⟩ ⟨3, ![2, 512, 512]⟩ 1 4 c (Cert.ReferenceIdealAttn.whole X WQ WK WV WO : SX.Idx → EReal) h := by
  funext i
  rw [eq_ix3 i]
  refine (H.out c (i 0) (i 1) (i 2)).trans (Eq.trans ?_ (block_x _ c h (i 0) (i 1) (i 2)).symm)
  exact (Cert.ReferenceIdealAttn.whole_apply X WQ WK WV WO (whole_x_real X fun c b r k => H.x c b r k ▸ hx c _) (whole_w_real WQ fun c k e => H.wq c k e ▸ hq c _)
    (whole_w_real WK fun c k e => H.wk c k e ▸ hk c _) _ _ _).symm

end Cert.Proof

end
-- ==== Proof.Value.lean ====
/-
  The value claim: started from the same whole arrays, the activations and the query and key weights finite, every device's
  result is its block of the reference's.
-/
module

public import proofs.«01_k».proof.Proof.Blocks
public import proofs.«01_k».proof.Proof.KernelIdeal.Launch

@[expose] public section

set_option maxRecDepth 16384

noncomputable section

namespace Cert.Proof

open Idealize.ShloMosaic Idealize.SL.Sem Cert.Attention Cert.KernelIdealAttn

/-- Kernel and reference agree. -/
theorem algebraic : Cert.algebraic_KernelIdeal_ReferenceIdeal_pre_scores_are_finite_KernelIdeal := by
  intro m g m' g' hpre hm
  have hr := fun c => pre_real _ _ _ _ _ (hpre c)
  have H : Blocks (insOf m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c b r k => (congrFun (hm c).1 _).trans (block_x _ c _ b r k), fun c k e => (congrFun (hm c).2.1 _).trans (block_w _ c _ k e),
      fun c k e => (congrFun (hm c).2.2.1 _).trans (block_w _ c _ k e), fun c k e => (congrFun (hm c).2.2.2.1 _).trans (block_w _ c _ k e),
      fun c e o => (congrFun (hm c).2.2.2.2 _).trans (block_o _ c _ e o)⟩
  refine ⟨Cert.ReferenceIdeal.Value.res_out0 m' 0, ?_, ?_⟩
  · refine (θ_run Cert.KernelIdeal.defs _ _).mono (fun r h c => ⟨(h.1 c).1.trans ?_, (h.1 c).2⟩) (run_values m g)
    rw [Cert.ReferenceIdealAttn.result_eq]
    exact results_agree (insOf m) _ _ _ _ _ H (fun c => (hr c).1) (fun c => (hr c).2.1) (fun c => (hr c).2.2) c _
  · exact (θ_run Cert.ReferenceIdeal.defs _ _).mono (fun r h => h 0) (Cert.ReferenceIdeal.Value.run m' g')

end Cert.Proof

end
-- ==== Proof.lean ====
/-
  The proof of the claims: the frames of the kernel at bits and over the reals and of the reference, and the value claim.
-/
module

public import proofs.«01_k».proof.Defs
public import proofs.«01_k».proof.Proof.Gen.Pre_scores_are_finite_KernelIdeal
public import proofs.«01_k».proof.Proof.Gen.Pre_scores_are_finite_ReferenceIdeal
public import proofs.«01_k».proof.Proof.Frames
public import proofs.«01_k».proof.Proof.Value

@[expose] public section

noncomputable section

namespace Cert.Proof

open Idealize.ShloMosaic Idealize.SL.Sem

/-- Every claim, each by its own theorem. -/
theorem claim : Cert.Claim :=
  ⟨Cert.Kernel.Gen.facts, Cert.KernelIdeal.Gen.facts, Cert.ReferenceIdeal.Gen.facts, Cert.Pre_scores_are_finite_KernelIdeal.Gen.facts,
    Cert.Pre_scores_are_finite_ReferenceIdeal.Gen.facts, frame_kernel, frame_ideal, fun m ρ _ => frame_ideal m ρ trivial, frame_reference,
    fun m ρ _ => frame_reference m ρ trivial, trivial, algebraic⟩

end Cert.Proof

end
